-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_finite [hPre_gate_finite : Cert.Pre_gate_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_finite [hPre_gate_finite : Cert.Pre_gate_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_gate_finite [hKernel2Ideal : Cert.Kernel2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_gate_finite [hReference2Ideal : Cert.Reference2Ideal.Facts] [hPre_gate_finite : Cert.Pre_gate_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel2_Kernel2Ideal : Prop :=
  True

def algebraic_Kernel2Ideal_Reference2Ideal_pre_gate_finite [hKernel2Ideal : Cert.Kernel2Ideal.Facts] [hReference2Ideal : Cert.Reference2Ideal.Facts] [hPre_gate_finite : Cert.Pre_gate_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_v13) = v1 c
          ∧ r.2.mem ((c.tc : Thread Cert.Reference3Ideal.nD Cert.Reference3Ideal.τ).loc Cert.Reference3Ideal.main_v14) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v9) = v1 c
          ∧ r.2.mem ((c.tc : Thread Cert.Reference4Ideal.nD Cert.Reference4Ideal.τ).loc Cert.Reference4Ideal.main_v10) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_gate_finite : Cert.Pre_gate_finite.Facts),
    quiescent_Kernel2 (hKernel2 := hKernel2)
    ∧ quiescent_Kernel2Ideal (hKernel2Ideal := hKernel2Ideal)
    ∧ quiescent_Kernel2Ideal_pre_gate_finite (hKernel2Ideal := hKernel2Ideal) (hPre_gate_finite := hPre_gate_finite)
    ∧ quiescent_Reference2Ideal (hReference2Ideal := hReference2Ideal)
    ∧ quiescent_Reference2Ideal_pre_gate_finite (hReference2Ideal := hReference2Ideal) (hPre_gate_finite := hPre_gate_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel2_Kernel2Ideal
    ∧ algebraic_Kernel2Ideal_Reference2Ideal_pre_gate_finite (hKernel2Ideal := hKernel2Ideal) (hReference2Ideal := hReference2Ideal) (hPre_gate_finite := hPre_gate_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_gate_finite.lean ====
abbrev S8192x2048 : Shape := ⟨2, ![8192, 2048]⟩
abbrev S1x2048 : Shape := ⟨2, ![1, 2048]⟩
abbrev S2048x11008 : Shape := ⟨2, ![2048, 11008]⟩
abbrev S5504x2048 : Shape := ⟨2, ![5504, 2048]⟩
abbrev S_ : Shape := ⟨0, ![]⟩
abbrev S2048x5504 : Shape := ⟨2, ![2048, 5504]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bitsLt_bf16_f32 : FTy.bits .bf16 < FTy.bits .f32
  slices_S2048x11008_S2048x5504_0_0 : S2048x11008.Slices ![0, 0] S2048x5504
  bcast_S_S2048x5504 : S_.BroadcastsInDim S2048x5504 (![] : Fin 0 → Fin S2048x5504.rank)
  reducesTo_S2048x5504_S_d0_1 : S2048x5504.ReducesTo [0, 1] S_

variable [Facts]

def fn {F : FTy → Type} [FloatOps F] (main_arg0 : FVec F S8192x2048 .f32) (main_arg1 : FVec F S1x2048 .f32) (main_arg2 : FVec F S2048x11008 .bf16) (main_arg3 : FVec F S5504x2048 .bf16) (main_arg4 : FVec F S1x2048 .f32) : IVec S_ 1 :=
  let main_v0 : FVec F S1x2048 .f32 := Host.absf main_arg1
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S2048x11008 .f32 := (extf .f32 · bitsLt_bf16_f32) main_arg2
  let main_v5 : FVec F S2048x5504 .f32 := (extractStridedSlice S2048x5504 ![0, 0] · slices_S2048x11008_S2048x5504_0_0) main_v4
  let main_v6 : FVec F S2048x5504 .f32 := Host.absf main_v5
  let main_cst_0 : FVec F S_ .f32 := constant S_ .f32 0x7F800000#32
  let main_v7 : FVec F S2048x5504 .f32 := broadcastInDim S2048x5504 ![] bcast_S_S2048x5504 main_cst_0
  let main_v8 : IVec S2048x5504 1 := cmpf .olt main_v6 main_v7
  let main_c_1 : IVec S_ 1 := constantI S_ 1 1#1
  let main_v9 : IVec S_ 1 := (fun x v => Host.reduce IntOp.andi x v reducesTo_S2048x5504_S_d0_1 h_S_) main_v8 main_c_1
  let main_v10 : IVec S_ 1 := andi main_v3 main_v9
  main_v10
-- ==== Kernel2.lean ====
abbrev S8192x2048 : Shape := ⟨2, ![8192, 2048]⟩
abbrev S1x2048 : Shape := ⟨2, ![1, 2048]⟩
abbrev S2048x11008 : Shape := ⟨2, ![2048, 11008]⟩
abbrev S5504x2048 : Shape := ⟨2, ![5504, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11008, .bf16⟩
  | .hbm, ⟨3, _⟩ => ⟨S5504x2048, .bf16⟩
  | .hbm, ⟨4, _⟩ => ⟨S1x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c39_i32 : BitVec 32 := 39#32
  let v1 : BitVec 32 := Scalar.minsi v0 c39_i32
  let c0_i32 : BitVec 32 := 0#32
  let v2 : BitVec 32 := Scalar.addi v1 c0_i32
  let c128_i32 : BitVec 32 := 128#32
  let v3 : BitVec 32 := Scalar.muli v2 c128_i32
  let c0_i32_0 : BitVec 32 := 0#32
  let c0_i32_1 : BitVec 32 := 0#32
  ![c0_i32_0.toNat, v3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c39_i32 : BitVec 32 := 39#32
  let v1 : BitVec 32 := Scalar.minsi v0 c39_i32
  let c43_i32 : BitVec 32 := 43#32
  let v2 : BitVec 32 := Scalar.addi v1 c43_i32
  let c128_i32 : BitVec 32 := 128#32
  let v3 : BitVec 32 := Scalar.muli v2 c128_i32
  let c0_i32 : BitVec 32 := 0#32
  let c0_i32_0 : BitVec 32 := 0#32
  ![c0_i32.toNat, v3.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c39_i32 : BitVec 32 := 39#32
  let v1 : BitVec 32 := Scalar.minsi v0 c39_i32
  let c0_i32 : BitVec 32 := 0#32
  let v2 : BitVec 32 := Scalar.addi v1 c0_i32
  let c128_i32 : BitVec 32 := 128#32
  let v3 : BitVec 32 := Scalar.muli v2 c128_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S8192x2048 : Shape := ⟨2, ![8192, 2048]⟩
abbrev S1x2048 : Shape := ⟨2, ![1, 2048]⟩
abbrev S2048x11008 : Shape := ⟨2, ![2048, 11008]⟩
abbrev S5504x2048 : Shape := ⟨2, ![5504, 2048]⟩
abbrev S_ : Shape := ⟨0, ![]⟩
abbrev S8192 : Shape := ⟨1, ![8192]⟩
abbrev S8192x1 : Shape := ⟨2, ![8192, 1]⟩
abbrev S8192x11008 : Shape := ⟨2, ![8192, 11008]⟩
abbrev S8192x5504 : Shape := ⟨2, ![8192, 5504]⟩

abbrev nBuf : Space → Nat
  | .hbm => 55
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x11008, .bf16⟩
  | .hbm, ⟨3, _⟩ => ⟨S5504x2048, .bf16⟩
  | .hbm, ⟨4, _⟩ => ⟨S1x2048, .f32⟩
  | .hbm, ⟨5, _⟩ => ⟨S2048x11008, .f32⟩
  | .hbm, ⟨6, _⟩ => ⟨S5504x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x11008, .f32⟩
  | .hbm, ⟨23, _⟩ => ⟨S8192x5504, .f32⟩
  | .hbm, ⟨24, _⟩ => ⟨S8192x5504, .f32⟩
  | .hbm, ⟨25, _⟩ => ⟨S8192x5504, .f32⟩
  | .hbm, ⟨26, _⟩ => ⟨S8192x5504, .f32⟩
  | .hbm, ⟨27, _⟩ => ⟨S_, .f32⟩
  | .hbm, ⟨28, _⟩ => ⟨S8192x5504, .f32⟩
  | .hbm, ⟨29, _⟩ => ⟨S8192x5504, .f32⟩
  | .hbm, ⟨30, _⟩ => ⟨S_, .f32⟩
  | .hbm, ⟨31, _⟩ => ⟨S8192x5504, .f32⟩
  | .hbm, ⟨32, _⟩ => ⟨S8192x5504, .f32⟩
  | .hbm, ⟨33, _⟩ => ⟨S8192x5504, .f32⟩
  | .hbm, ⟨34, _⟩ => ⟨S8192x5504, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S_, .f32⟩
  | .hbm, ⟨52, _⟩ => ⟨S8192x2048, .f32⟩
  | .hbm, ⟨53, _⟩ => ⟨S8192x2048, .f32⟩
  | .hbm, ⟨54, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩

abbrev nD : Nat := 1
abbrev τ : Topo := Topo.v7x

variable {F : FTy → Type} [FloatOps F]
-- ==== Kernel3.lean ====
abbrev S8192x2048 : Shape := ⟨2, ![8192, 2048]⟩
abbrev S2048x8704 : Shape := ⟨2, ![2048, 8704]⟩
abbrev S2048x11008 : Shape := ⟨2, ![2048, 11008]⟩
abbrev S5504x2048 : Shape := ⟨2, ![5504, 2048]⟩
abbrev S8192x5376 : Shape := ⟨2, ![8192, 5376]⟩
abbrev S2048x2048 : Shape := ⟨2, ![2048, 2048]⟩
abbrev S2048x512 : Shape := ⟨2, ![2048, 512]⟩
abbrev S64x11008 : Shape := ⟨2, ![64, 11008]⟩
abbrev S128x2048 : Shape := ⟨2, ![128, 2048]⟩
abbrev S256x2048 : Shape := ⟨2, ![256, 2048]⟩
abbrev S256x512 : Shape := ⟨2, ![256, 512]⟩
abbrev S2048x256 : Shape := ⟨2, ![2048, 256]⟩
abbrev S256x256 : Shape := ⟨2, ![256, 256]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x8704, .f32⟩
  | .hbm, ⟨2, _⟩ => ⟨S2048x11008, .f32⟩
  | .hbm, ⟨3, _⟩ => ⟨S5504x2048, .f32⟩
  | .hbm, ⟨4, _⟩ => ⟨S8192x5376, .bf16⟩
  | .hbm, ⟨5, _⟩ => ⟨S2048x11008, .bf16⟩
  | .hbm, ⟨6, _⟩ => ⟨S5504x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S64x11008, .f32⟩
  | .local _ .vmem, ⟨5, _⟩ => ⟨S64x11008, .f32⟩
  | .local _ .vmem, ⟨6, _⟩ => ⟨S128x2048, .f32⟩
  | .local _ .vmem, ⟨7, _⟩ => ⟨S128x2048, .f32⟩
  | .local _ .vmem, ⟨8, _⟩ => ⟨S2048x512, .bf16⟩
  | .local _ .vmem, ⟨9, _⟩ => ⟨S2048x512, .bf16⟩
  | .local _ .vmem, ⟨10, _⟩ => ⟨S64x11008, .bf16⟩
  | .local _ .vmem, ⟨11, _⟩ => ⟨S64x11008, .bf16⟩
  | .local _ .vmem, ⟨12, _⟩ => ⟨S128x2048, .bf16⟩
  | .local _ .vmem, ⟨13, _⟩ => ⟨S128x2048, .bf16⟩
  | .local _ .vmem, ⟨14, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c8_i32 : BitVec 32 := 8#32
  let v0 : BitVec 1 := Scalar.cmpi .slt arg1 c8_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c8_i32_0 : BitVec 32 := 8#32
  let v3 : BitVec 1 := Scalar.cmpi .sge arg1 c8_i32_0
  let c10_i32 : BitVec 32 := 10#32
  let v4 : BitVec 1 := Scalar.cmpi .slt arg1 c10_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c10_i32_2 : BitVec 32 := 10#32
  let v8 : BitVec 1 := Scalar.cmpi .eq arg1 c10_i32_2
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 1 := Scalar.cmpi .slt arg1 c8_i32
  let c9_i32 : BitVec 32 := 9#32
  let v1 : BitVec 32 := Scalar.addi c9_i32 arg1
  let c10_i32 : BitVec 32 := 10#32
  let v2 : BitVec 1 := Scalar.cmpi .slt arg1 c10_i32
  let c8_i32_0 : BitVec 32 := 8#32
  let v3 : BitVec 32 := Scalar.subi arg1 c8_i32_0
  let c2_i32 : BitVec 32 := 2#32
  let v4 : BitVec 32 := Scalar.addi c2_i32 v3
  let c8_i32_1 : BitVec 32 := 8#32
  let v5 : BitVec 32 := Scalar.select v2 v4 c8_i32_1
  let v6 : BitVec 32 := Scalar.select v0 v1 v5
  let c0_i32 : BitVec 32 := 0#32
  let c0_i32_2 : BitVec 32 := 0#32
  ![c0_i32.toNat, v6.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c42_i32 : BitVec 32 := 42#32
  let v2 : BitVec 32 := Scalar.minsi v1 c42_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c42_i32 : BitVec 32 := 42#32
  let v2 : BitVec 32 := Scalar.minsi v1 c42_i32
  let c0_i32 : BitVec 32 := 0#32
  let c0_i32_0 : BitVec 32 := 0#32
  ![v2.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x11008 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8192x2048 : Shape := ⟨2, ![8192, 2048]⟩
abbrev S2048x8704 : Shape := ⟨2, ![2048, 8704]⟩
abbrev S2048x11008 : Shape := ⟨2, ![2048, 11008]⟩
abbrev S5504x2048 : Shape := ⟨2, ![5504, 2048]⟩
abbrev S8192x8704 : Shape := ⟨2, ![8192, 8704]⟩
abbrev S8192x4096 : Shape := ⟨2, ![8192, 4096]⟩
abbrev S_ : Shape := ⟨0, ![]⟩
abbrev S8192x1024 : Shape := ⟨2, ![8192, 1024]⟩
abbrev S8192x256 : Shape := ⟨2, ![8192, 256]⟩
abbrev S8192x5376 : Shape := ⟨2, ![8192, 5376]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8704, .f32⟩
  | .hbm, ⟨2, _⟩ => ⟨S2048x11008, .f32⟩
  | .hbm, ⟨3, _⟩ => ⟨S5504x2048, .f32⟩
  | .hbm, ⟨4, _⟩ => ⟨S8192x2048, .f32⟩
  | .hbm, ⟨5, _⟩ => ⟨S8192x8704, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x256, .f32⟩
  | .hbm, ⟨17, _⟩ => ⟨S8192x5376, .f32⟩
  | .hbm, ⟨18, _⟩ => ⟨S8192x5376, .bf16⟩
  | .hbm, ⟨19, _⟩ => ⟨S2048x11008, .bf16⟩
  | .hbm, ⟨20, _⟩ => ⟨S5504x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel4.lean ====
abbrev S8192x2048 : Shape := ⟨2, ![8192, 2048]⟩
abbrev S2048x8704 : Shape := ⟨2, ![2048, 8704]⟩
abbrev S1024x2048 : Shape := ⟨2, ![1024, 2048]⟩
abbrev S2048x2048 : Shape := ⟨2, ![2048, 2048]⟩
abbrev S64x3328x128 : Shape := ⟨3, ![64, 3328, 128]⟩
abbrev S2048x512 : Shape := ⟨2, ![2048, 512]⟩
abbrev S64x2048 : Shape := ⟨2, ![64, 2048]⟩
abbrev S128x2048 : Shape := ⟨2, ![128, 2048]⟩
abbrev S16x512x128 : Shape := ⟨3, ![16, 512, 128]⟩
abbrev S256x2048 : Shape := ⟨2, ![256, 2048]⟩
abbrev S256x512 : Shape := ⟨2, ![256, 512]⟩
abbrev S128x512 : Shape := ⟨2, ![128, 512]⟩
abbrev S512x128 : Shape := ⟨2, ![512, 128]⟩
abbrev S1x512x128 : Shape := ⟨3, ![1, 512, 128]⟩
abbrev S2048x256 : Shape := ⟨2, ![2048, 256]⟩
abbrev S256x256 : Shape := ⟨2, ![256, 256]⟩
abbrev S128x256 : Shape := ⟨2, ![128, 256]⟩
abbrev S256x128 : Shape := ⟨2, ![256, 128]⟩
abbrev S1x256x128 : Shape := ⟨3, ![1, 256, 128]⟩

abbrev nBuf : Space → Nat
  | .hbm => 7
  | .vmem => 15
  | .smem => 0
  | _ => 0

abbrev bufTy : (tb : Table) → Fin (tcTables nBuf tb) → BufTy
  | .hbm, ⟨0, _⟩ => ⟨S8192x2048, .bf16⟩
  | .hbm, ⟨1, _⟩ => ⟨S2048x8704, .f32⟩
  | .hbm, ⟨2, _⟩ => ⟨S1024x2048, .f32⟩
  | .hbm, ⟨3, _⟩ => ⟨S2048x2048, .f32⟩
  | .hbm, ⟨4, _⟩ => ⟨S64x3328x128, .bf16⟩
  | .hbm, ⟨5, _⟩ => ⟨S1024x2048, .bf16⟩
  | .hbm, ⟨6, _⟩ => ⟨S2048x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S64x2048, .f32⟩
  | .local _ .vmem, ⟨5, _⟩ => ⟨S64x2048, .f32⟩
  | .local _ .vmem, ⟨6, _⟩ => ⟨S128x2048, .f32⟩
  | .local _ .vmem, ⟨7, _⟩ => ⟨S128x2048, .f32⟩
  | .local _ .vmem, ⟨8, _⟩ => ⟨S16x512x128, .bf16⟩
  | .local _ .vmem, ⟨9, _⟩ => ⟨S16x512x128, .bf16⟩
  | .local _ .vmem, ⟨10, _⟩ => ⟨S64x2048, .bf16⟩
  | .local _ .vmem, ⟨11, _⟩ => ⟨S64x2048, .bf16⟩
  | .local _ .vmem, ⟨12, _⟩ => ⟨S128x2048, .bf16⟩
  | .local _ .vmem, ⟨13, _⟩ => ⟨S128x2048, .bf16⟩
  | .local _ .vmem, ⟨14, _⟩ => ⟨S2048x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 7], ![false, false]⟩

def k0_cond1 (i : grid0.Coords) : BitVec 1 :=
  let arg1 : BitVec 32 := BitVec.ofNat 32 (i 1).val
  let c6_i32 : BitVec 32 := 6#32
  let v0 : BitVec 1 := Scalar.cmpi .slt arg1 c6_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c6_i32_0 : BitVec 32 := 6#32
  let v3 : BitVec 1 := Scalar.cmpi .eq arg1 c6_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .slt arg1 c2_i32
  let c0_i32 : BitVec 32 := 0#32
  let v1 : BitVec 32 := Scalar.addi c0_i32 arg1
  let c4_i32 : BitVec 32 := 4#32
  let v2 : BitVec 1 := Scalar.cmpi .slt arg1 c4_i32
  let c2_i32_0 : BitVec 32 := 2#32
  let v3 : BitVec 32 := Scalar.subi arg1 c2_i32_0
  let c4_i32_1 : BitVec 32 := 4#32
  let v4 : BitVec 32 := Scalar.addi c4_i32_1 v3
  let c6_i32 : BitVec 32 := 6#32
  let v5 : BitVec 1 := Scalar.cmpi .slt arg1 c6_i32
  let c4_i32_2 : BitVec 32 := 4#32
  let v6 : BitVec 32 := Scalar.subi arg1 c4_i32_2
  let c6_i32_3 : BitVec 32 := 6#32
  let v7 : BitVec 32 := Scalar.addi c6_i32_3 v6
  let c8_i32 : BitVec 32 := 8#32
  let v8 : BitVec 32 := Scalar.select v5 v7 c8_i32
  let v9 : BitVec 32 := Scalar.select v2 v4 v8
  let v10 : BitVec 32 := Scalar.select v0 v1 v9
  let c0_i32_4 : BitVec 32 := 0#32
  let c0_i32_5 : BitVec 32 := 0#32
  ![c0_i32_4.toNat, v10.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.muli arg0 c7_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S8192x2048 : Shape := ⟨2, ![8192, 2048]⟩
abbrev S2048x8704 : Shape := ⟨2, ![2048, 8704]⟩
abbrev S1024x2048 : Shape := ⟨2, ![1024, 2048]⟩
abbrev S2048x2048 : Shape := ⟨2, ![2048, 2048]⟩
abbrev S8192x8704 : Shape := ⟨2, ![8192, 8704]⟩
abbrev S8192x1024 : Shape := ⟨2, ![8192, 1024]⟩
abbrev S8192x256 : Shape := ⟨2, ![8192, 256]⟩
abbrev S8192x3328 : Shape := ⟨2, ![8192, 3328]⟩
abbrev S64x128x3328 : Shape := ⟨3, ![64, 128, 3328]⟩
abbrev S64x3328x128 : Shape := ⟨3, ![64, 3328, 128]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x8704, .f32⟩
  | .hbm, ⟨2, _⟩ => ⟨S1024x2048, .f32⟩
  | .hbm, ⟨3, _⟩ => ⟨S2048x2048, .f32⟩
  | .hbm, ⟨4, _⟩ => ⟨S8192x2048, .f32⟩
  | .hbm, ⟨5, _⟩ => ⟨S8192x8704, .f32⟩
  | .hbm, ⟨6, _⟩ => ⟨S8192x1024, .f32⟩
  | .hbm, ⟨7, _⟩ => ⟨S8192x2048, .f32⟩
  | .hbm, ⟨8, _⟩ => ⟨S8192x256, .f32⟩
  | .hbm, ⟨9, _⟩ => ⟨S8192x3328, .f32⟩
  | .hbm, ⟨10, _⟩ => ⟨S64x128x3328, .f32⟩
  | .hbm, ⟨11, _⟩ => ⟨S64x3328x128, .f32⟩
  | .hbm, ⟨12, _⟩ => ⟨S64x3328x128, .bf16⟩
  | .hbm, ⟨13, _⟩ => ⟨S1024x2048, .bf16⟩
  | .hbm, ⟨14, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S8192x1024 : Shape := ⟨2, ![8192, 1024]⟩
abbrev S8192x5376 : Shape := ⟨2, ![8192, 5376]⟩
abbrev S1024x2048 : Shape := ⟨2, ![1024, 2048]⟩
abbrev S2048x2048 : Shape := ⟨2, ![2048, 2048]⟩
abbrev S8192x2048 : Shape := ⟨2, ![8192, 2048]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 16
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5376, .bf16⟩
  | .hbm, ⟨3, _⟩ => ⟨S1024x2048, .bf16⟩
  | .hbm, ⟨4, _⟩ => ⟨S1024x2048, .bf16⟩
  | .hbm, ⟨5, _⟩ => ⟨S2048x2048, .bf16⟩
  | .hbm, ⟨6, _⟩ => ⟨S8192x2048, .f32⟩
  | .hbm, ⟨7, _⟩ => ⟨S1x2048, .f32⟩
  | .hbm, ⟨8, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S512x2048, .f32⟩
  | .local _ .vmem, ⟨12, _⟩ => ⟨S512x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S8192x1024 : Shape := ⟨2, ![8192, 1024]⟩
abbrev S8192x5376 : Shape := ⟨2, ![8192, 5376]⟩
abbrev S1024x2048 : Shape := ⟨2, ![1024, 2048]⟩
abbrev S2048x2048 : Shape := ⟨2, ![2048, 2048]⟩
abbrev S8192x2048 : Shape := ⟨2, ![8192, 2048]⟩
abbrev S1x2048 : Shape := ⟨2, ![1, 2048]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x5376, .bf16⟩
  | .hbm, ⟨3, _⟩ => ⟨S1024x2048, .bf16⟩
  | .hbm, ⟨4, _⟩ => ⟨S1024x2048, .bf16⟩
  | .hbm, ⟨5, _⟩ => ⟨S2048x2048, .bf16⟩
  | .hbm, ⟨6, _⟩ => ⟨S8192x2048, .f32⟩
  | .hbm, ⟨7, _⟩ => ⟨S1x2048, .f32⟩
  | .hbm, ⟨8, _⟩ => ⟨S8192x1024, .f32⟩
  | .hbm, ⟨9, _⟩ => ⟨S8192x1024, .f32⟩
  | .hbm, ⟨10, _⟩ => ⟨S1024x2048, .f32⟩
  | .hbm, ⟨11, _⟩ => ⟨S1024x2048, .f32⟩
  | .hbm, ⟨12, _⟩ => ⟨S2048x2048, .f32⟩
  | .hbm, ⟨13, _⟩ => ⟨S8192x4096, .bf16⟩
  | .hbm, ⟨14, _⟩ => ⟨S8192x4096, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Proof.Ffn.Spec.lean ====
/- The feed-forward half-step on one row, as a function of the row and the weights, and how the kernel's stored values read
   in these terms, element by element. -/
module

public import proofs.«01_k».proof.Proof.Gen.Kernel2Ideal.Skeleton
public import Idealize.ShloMosaic.Lib.Pointwise

@[expose] public section

noncomputable section

namespace Cert.Ffn

open Idealize.ShloMosaic

/-- The reciprocal root mean square of a row. -/
def rs (x : Fin 2048 → EReal) : EReal :=
  Ideal.rsqrt (Ideal.div (∑ k, x k * x k) (Ideal.ofBits .f32 0x45000000#32) + Ideal.ofBits .f32 0x358637BD#32)

/-- A row normalised and scaled by the gains `g`. -/
def nrow (x g : Fin 2048 → EReal) (k : Fin 2048) : EReal := x k * rs x * g k

/-- Half of a number, as the kernel multiplies. -/
def half (g : EReal) : EReal := Ideal.ofBits .f32 0x3F000000#32 * g

/-- The gated unit, in the kernel's form. -/
def act (g u : EReal) : EReal := (half g + half g * Ideal.tanh (half g)) * u

/-- One gated unit of the row `h` at the gate column `a` and the up column `b`. -/
def gunit (h a b : Fin 2048 → EReal) : EReal := act (∑ k, h k * a k) (∑ k, h k * b k)

/-- A value of the last block of hidden columns, whose first 128 columns the block before has already taken. -/
def late (f : Fin 512) (v : EReal) : EReal := if f.val < 128 then 0 else v

/-- The row after the half-step: the residual `x` and the result `y` of the feed-forward layer, normalised with gains `g`. -/
def closeRow (x y g : Fin 2048 → EReal) (k : Fin 2048) : EReal := x k + half (nrow y g k)

end Cert.Ffn

namespace Cert.Kernel2Ideal.Ffn

open Cert.Kernel2Ideal Cert.Kernel2Ideal.Gen Cert.Ffn Idealize.ShloMosaic

theorem pay6_apply (x : Vec Ideal S256x2048 .f32) (g : Vec Ideal S1x2048 .f32) (r : Fin 256) (k : Fin 2048) :
    k0_pay6 x g (ix2 r k) = nrow (fun k => x (ix2 r k)) (fun k => g (ix2 0 k)) k := by
  unfold nrow rs
  pointwise [k0_pay6]

theorem pay8_apply (x : Vec Ideal S256x2048 .f32) (g : Vec Ideal S1x2048 .f32) (wg wu : Vec Ideal S2048x512 .bf16)
    (wo : Vec Ideal S512x2048 .bf16) (r : Fin 256) (n : Fin 2048) :
    k0_pay8 x g wg wu wo (ix2 r n)
      = ∑ f : Fin 512, gunit (nrow (fun k => x (ix2 r k)) (fun k => g (ix2 0 k))) (fun k => wg (ix2 k f)) (fun k => wu (ix2 k f))
          * wo (ix2 f n) := by
  unfold gunit act half
  pointwise [k0_pay8, pay6_apply]

/-- A first step's stored rows of the normalised input, for each chunk of rows: the same function. -/
theorem pay7_eq (x : Vec Ideal S256x2048 .f32) (g : Vec Ideal S1x2048 .f32) : k0_pay7 x g = k0_pay6 x g := by
  funext j
  pointwise [k0_pay7]

theorem pay18_apply (h : Vec Ideal S512x2048 .bf16) (wg wu : Vec Ideal S2048x512 .bf16)
    (wo : Vec Ideal S512x2048 .bf16) (y : Vec Ideal S512x2048 .f32) (r : Fin 512) (n : Fin 2048) :
    k0_pay18 h wg wu wo y (ix2 r n)
      = y (ix2 r n) + ∑ f : Fin 512, gunit (fun k => h (ix2 r k)) (fun k => wg (ix2 k f)) (fun k => wu (ix2 k f))
          * wo (ix2 f n) := by
  unfold gunit act half
  pointwise [k0_pay18]

theorem slt_128 : ∀ f : Fin 512, IntOp.cmpi .slt (BitVec.ofNat 32 f.val) 128#32 = if f.val < 128 then 1#1 else 0#1 := by
  decide +kernel

theorem pay28_apply (h : Vec Ideal S256x2048 .bf16) (wg wu : Vec Ideal S2048x512 .bf16)
    (wo : Vec Ideal S512x2048 .bf16) (y : Vec Ideal S256x2048 .f32) (r : Fin 256) (n : Fin 2048) :
    k0_pay28 h wg wu wo y (ix2 r n)
      = y (ix2 r n) + ∑ f : Fin 512, late f (gunit (fun k => h (ix2 r k)) (fun k => wg (ix2 k f)) (fun k => wu (ix2 k f)))
          * wo (ix2 f n) := by
  unfold gunit act half
  pointwise [k0_pay28]
  refine congrArg _ (Finset.sum_congr rfl fun f _ => ?_)
  rw [slt_128]
  unfold late
  split
  · exact (zero_mul _).symm
  · rfl

theorem pay5_apply (y x : Vec Ideal S256x2048 .f32) (g : Vec Ideal S1x2048 .f32) (r : Fin 256) (n : Fin 2048) :
    k0_pay5 y x g (ix2 r n)
      = closeRow (fun k => x (ix2 r k)) (fun k => y (ix2 r k)) (fun k => g (ix2 0 k)) n := by
  unfold closeRow nrow rs half
  pointwise [k0_pay5]

end Cert.Kernel2Ideal.Ffn
-- ==== Proof.Ffn.Chunks.lean ====
/- The kernel computes its 1024 rows in chunks. What each chunk stores is the same function of the chunk's rows, whichever of the
   chunks it is. -/
module

public import proofs.«01_k».proof.Proof.Ffn.Spec
public import Idealize.ShloMosaic.Lib.Pipeline.ValueKit

@[expose] public section

noncomputable section

namespace Cert.Ffn

open Idealize.ShloMosaic

/-- What one block of hidden columns adds to column `n` of the row whose normalised input is `h`. -/
def part (h : Fin 2048 → EReal) (wg wu : Fin 2048 → Fin 512 → EReal) (wo : Fin 512 → Fin 2048 → EReal) (n : Fin 2048) : EReal :=
  ∑ f : Fin 512, gunit h (fun k => wg k f) (fun k => wu k f) * wo f n

/-- The same of the last block, which leaves out the columns the block before has taken. -/
def lastPart (h : Fin 2048 → EReal) (wg wu : Fin 2048 → Fin 512 → EReal) (wo : Fin 512 → Fin 2048 → EReal) (n : Fin 2048) : EReal :=
  ∑ f : Fin 512, late f (gunit h (fun k => wg k f) (fun k => wu k f)) * wo f n

end Cert.Ffn

namespace Cert.Kernel2Ideal.Ffn

open Cert.Kernel2Ideal Cert.Kernel2Ideal.Gen Cert.Ffn Idealize.ShloMosaic

variable (x : Vec Ideal S256x2048 .f32) (g : Vec Ideal S1x2048 .f32) (wg wu : Vec Ideal S2048x512 .bf16)
  (wo : Vec Ideal S512x2048 .bf16) (h : Vec Ideal S256x2048 .bf16) (y : Vec Ideal S256x2048 .f32)

theorem pay12_eq : k0_pay12 x (k0_pay9 x) g wg wu wo = k0_pay8 x g wg wu wo := rfl
theorem pay16_eq : k0_pay16 x (k0_pay13 x) g wg wu wo = k0_pay8 x g wg wu wo := rfl
theorem pay3_eq : k0_pay3 x (k0_pay17 x) g wg wu wo = k0_pay8 x g wg wu wo := rfl
theorem pay11_eq : k0_pay11 x (k0_pay9 x) g = k0_pay7 x g := rfl
theorem pay15_eq : k0_pay15 x (k0_pay13 x) g = k0_pay7 x g := rfl
theorem pay2_eq : k0_pay2 x (k0_pay17 x) g = k0_pay7 x g := rfl
theorem pay21_eq : k0_pay21 x (k0_pay20 h wg wu wo y g) (FloatOps.ofBits FTy.f32 1056964608#32)
    = k0_pay5 (k0_pay28 h wg wu wo y) x g := rfl
theorem pay24_eq : k0_pay24 (k0_pay22 h wg wu wo y) x (k0_pay23 h wg wu wo y) g
    = k0_pay5 (k0_pay28 h wg wu wo y) x g := rfl
theorem pay27_eq : k0_pay27 (k0_pay25 h wg wu wo y) x (k0_pay26 h wg wu wo y) (FloatOps.ofBits FTy.f32 1157627904#32) g
    = k0_pay5 (k0_pay28 h wg wu wo y) x g := rfl

/-- A chunk of a last step, at an element. -/
theorem last_apply (r : Fin 256) (n : Fin 2048) :
    k0_pay5 (k0_pay28 h wg wu wo y) x g (ix2 r n)
      = closeRow (fun k => x (ix2 r k))
          (fun n => y (ix2 r n) + ∑ f : Fin 512, late f (gunit (fun k => h (ix2 r k)) (fun k => wg (ix2 k f)) (fun k => wu (ix2 k f)))
            * wo (ix2 f n))
          (fun k => g (ix2 0 k)) n := by
  rw [pay5_apply]; simp only [pay28_apply]

theorem pay4_eq (h : Vec Ideal S512x2048 .bf16) (y : Vec Ideal S512x2048 .f32) :
    k0_pay4 (k0_pay19 h wg wu) wo (constant S512x2048 FTy.f32 0#32) y = k0_pay18 h wg wu wo y := rfl

/-- A chunk of a first step, from the rows it loads. -/
theorem pay8_of (r : Fin 256) (n : Fin 2048) (X : Fin 2048 → EReal) (hX : ∀ k, x (ix2 r k) = X k) :
    k0_pay8 x g wg wu wo (ix2 r n)
      = part (nrow X (fun k => g (ix2 0 k))) (fun k f => wg (ix2 k f)) (fun k f => wu (ix2 k f)) (fun f n => wo (ix2 f n)) n := by
  obtain rfl : (fun k => x (ix2 r k)) = X := funext hX
  exact pay8_apply x g wg wu wo r n

/-- A chunk of a middle step, from the rows it loads. -/
theorem pay18_of (h : Vec Ideal S512x2048 .bf16) (y : Vec Ideal S512x2048 .f32) (r : Fin 512) (n : Fin 2048)
    (H Y : Fin 2048 → EReal) (hH : ∀ k, h (ix2 r k) = H k) (hY : ∀ k, y (ix2 r k) = Y k) :
    k0_pay18 h wg wu wo y (ix2 r n)
      = Y n + part H (fun k f => wg (ix2 k f)) (fun k f => wu (ix2 k f)) (fun f n => wo (ix2 f n)) n := by
  obtain rfl : (fun k => h (ix2 r k)) = H := funext hH
  obtain rfl : (fun k => y (ix2 r k)) = Y := funext hY
  exact pay18_apply h wg wu wo y r n

/-- A chunk of a last step, from the rows it loads. -/
theorem last_of (r : Fin 256) (n : Fin 2048) (X H Y : Fin 2048 → EReal) (hX : ∀ k, x (ix2 r k) = X k)
    (hH : ∀ k, h (ix2 r k) = H k) (hY : ∀ k, y (ix2 r k) = Y k) :
    k0_pay5 (k0_pay28 h wg wu wo y) x g (ix2 r n)
      = closeRow X (fun n => Y n + lastPart H (fun k f => wg (ix2 k f)) (fun k f => wu (ix2 k f)) (fun f n => wo (ix2 f n)) n)
          (fun k => g (ix2 0 k)) n := by
  obtain rfl : (fun k => x (ix2 r k)) = X := funext hX
  obtain rfl : (fun k => h (ix2 r k)) = H := funext hH
  obtain rfl : (fun k => y (ix2 r k)) = Y := funext hY
  exact last_apply x g wg wu wo h y r n

/-- The rows a chunk of rows starting at row `o` loads. -/
theorem ld_row {e : EltTy} {m : ℕ} (X : Vec Ideal S1024x2048 e) (o : ℕ) (inb : ∀ a, ![o, 0] a + ![m, 2048] a ≤ S1024x2048.size a)
    (r : Fin m) (R : Fin 1024) (hR : R.val = o + r.val) (k : Fin 2048) :
    View.ld X (Rect.unit ![o, 0] ![m, 2048] inb) (ix2 r k) = X (ix2 R k) :=
  View.ld_unit_apply_of X _ _ inb _ _ fun a => by
    match a with
    | ⟨0, _⟩ => exact hR
    | ⟨1, _⟩ => exact (Nat.zero_add _).symm

end Cert.Kernel2Ideal.Ffn
-- ==== Proof.Ffn.Steps.lean ====
/- What each kind of grid step leaves in the output block and in the scratch rows, element by element: the first step of a block of
   rows, a middle step and the last one. -/
module

public import proofs.«01_k».proof.Proof.Ffn.Chunks
public import proofs.«01_k».proof.Proof.Gen.Kernel2Ideal.Frame

@[expose] public section

noncomputable section

namespace Cert.Kernel2Ideal.Ffn

open Cert.Kernel2Ideal Cert.Kernel2Ideal.Gen Cert.Ffn Idealize.ShloMosaic

variable (c : Dev nD) (i : grid0.Coords)
  (arg2 : Memref sig .tc .vmem S1024x2048 .f32) (harg2 : arg2.IsWhole)
  (arg3 : Memref sig .tc .vmem S1x2048 .f32) (harg3 : arg3.IsWhole)
  (arg4 : Memref sig .tc .vmem S2048x512 .bf16) (harg4 : arg4.IsWhole)
  (arg5 : Memref sig .tc .vmem S2048x512 .bf16) (harg5 : arg5.IsWhole)
  (arg6 : Memref sig .tc .vmem S512x2048 .bf16) (harg6 : arg6.IsWhole)
  (arg7 : Memref sig .tc .vmem S1x2048 .f32) (harg7 : arg7.IsWhole)
  (arg8 : Memref sig .tc .vmem S1024x2048 .f32) (harg8 : arg8.IsWhole)
  (arg9 : Memref sig .tc .vmem S1024x2048 .bf16) (harg9 : arg9.IsWhole)
  (x0 : Vec Ideal S1024x2048 .f32) (x1 : Vec Ideal S1x2048 .f32) (x2 x3 : Vec Ideal S2048x512 .bf16)
  (x4 : Vec Ideal S512x2048 .bf16) (x5 : Vec Ideal S1x2048 .f32) (xo6 : Vec Ideal S1024x2048 .f32) (xs0 : Vec Ideal S1024x2048 .bf16)
  (R : Fin 1024) (n : Fin 2048)

/-- The scratch rows after a first step: the normalised input. -/
theorem sout_A_apply (hc0 : cond0_0 i) (hc1 : ¬cond0_1 i) (hc2 : ¬cond0_2 i) :
    sout0_A_0 c i arg2 harg2 arg3 harg3 arg4 harg4 arg5 harg5 arg6 harg6 arg7 harg7 arg8 harg8 arg9 harg9 hc0 hc1 hc2 x0 x1 x2 x3 x4 x5 (ix2 R n)
      = nrow (fun k => x0 (ix2 R k)) (fun k => x1 (ix2 0 k)) n := by
  frame_out
  simp only [pay2_eq, pay11_eq, pay15_eq, pay7_eq]
  canon_tiles z h
  all_goals
    idx_vars z
    obtain rfl : n = z1 := Fin.ext h1
    rw [pay6_apply]
    refine congrArg (fun f => nrow f _ _) (funext fun k => ?_)
    exact ld_row _ _ _ _ _ (by simpa using h0) _

/-- The output rows after a first step: the first block's part. -/
theorem out_A_apply (hc0 : cond0_0 i) (hc1 : ¬cond0_1 i) (hc2 : ¬cond0_2 i) :
    out0_A_6 c i arg2 harg2 arg3 harg3 arg4 harg4 arg5 harg5 arg6 harg6 arg7 harg7 arg8 harg8 arg9 harg9 hc0 hc1 hc2 x0 x1 x2 x3 x4 x5 (ix2 R n)
      = part (nrow (fun k => x0 (ix2 R k)) (fun k => x1 (ix2 0 k))) (fun k f => x2 (ix2 k f)) (fun k f => x3 (ix2 k f))
          (fun f n => x4 (ix2 f n)) n := by
  frame_out
  simp only [pay3_eq, pay16_eq, pay12_eq]
  canon_tiles z h
  all_goals
    idx_vars z
    obtain rfl : n = z1 := Fin.ext h1
    exact pay8_of _ _ _ _ _ _ _ _ (fun k => ld_row _ _ _ _ _ (by simpa using h0) k)

/-- The output rows after a middle step: what they held and the block's part. -/
theorem out_B_apply (hc0 : ¬cond0_0 i) (hc1 : cond0_1 i) (hc2 : ¬cond0_2 i) :
    out0_B_6 c i arg2 harg2 arg3 harg3 arg4 harg4 arg5 harg5 arg6 harg6 arg7 harg7 arg8 harg8 arg9 harg9 hc0 hc1 hc2 x0 x1 x2 x3 x4 x5 xo6 xs0 (ix2 R n)
      = xo6 (ix2 R n) + part (fun k => xs0 (ix2 R k)) (fun k f => x2 (ix2 k f)) (fun k f => x3 (ix2 k f))
          (fun f n => x4 (ix2 f n)) n := by
  frame_out
  simp only [pay4_eq]
  canon_tiles z h
  all_goals
    idx_vars z
    obtain rfl : n = z1 := Fin.ext h1
    exact pay18_of _ _ _ _ _ _ _ _ _ (fun k => ld_row _ _ _ _ _ (by simpa using h0) k) (fun k => ld_row _ _ _ _ _ (by simpa using h0) k)

/-- The output rows after a last step: the residual closed with what they held and the last block's part. -/
theorem out_C_apply (hc0 : ¬cond0_0 i) (hc1 : ¬cond0_1 i) (hc2 : cond0_2 i) :
    out0_C_6 c i arg2 harg2 arg3 harg3 arg4 harg4 arg5 harg5 arg6 harg6 arg7 harg7 arg8 harg8 arg9 harg9 hc0 hc1 hc2 x0 x1 x2 x3 x4 x5 xo6 xs0 (ix2 R n)
      = closeRow (fun k => x0 (ix2 R k))
          (fun n => xo6 (ix2 R n) + lastPart (fun k => xs0 (ix2 R k)) (fun k f => x2 (ix2 k f)) (fun k f => x3 (ix2 k f))
            (fun f n => x4 (ix2 f n)) n) (fun k => x5 (ix2 0 k)) n := by
  frame_out
  simp only [pay21_eq, pay24_eq, pay27_eq]
  canon_tiles z h
  all_goals
    idx_vars z
    obtain rfl : n = z1 := Fin.ext h1
    exact last_of _ _ _ _ _ _ _ _ _ _ _ _ (fun k => ld_row _ _ _ _ _ (by simpa using h0) k) (fun k => ld_row _ _ _ _ _ (by simpa using h0) k) (fun k => ld_row _ _ _ _ _ (by simpa using h0) k)

end Cert.Kernel2Ideal.Ffn
-- ==== Proof.Ffn.Fold.lean ====
/- What the output block and the scratch rows hold after each grid step, from the argument arrays. -/
module

public import proofs.«01_k».proof.Proof.Ffn.Steps

@[expose] public section

noncomputable section

namespace Cert.Ffn

open Idealize.ShloMosaic

/-- Hidden column `f` of block `j`: the blocks have 512 columns, the last one begins where its 512 columns end with the array. -/
def col (j : ℕ) (f : Fin 512) : Fin 5504 := ⟨min (512 * j) 4992 + f.val, by have := f.isLt; omega⟩

/-- The gate's column of the joint weight array. -/
def gateCol (p : Fin 5504) : Fin 11008 := ⟨p.val, by have := p.isLt; omega⟩

/-- The up projection's column of the joint weight array. -/
def upCol (p : Fin 5504) : Fin 11008 := ⟨5504 + p.val, by have := p.isLt; omega⟩

/-- What block `j` adds to column `n` of the row with normalised input `h`. -/
def partOf (h : Fin 2048 → EReal) (W : Fin 2048 → Fin 11008 → EReal) (O : Fin 5504 → Fin 2048 → EReal) (j : ℕ) : Fin 2048 → EReal :=
  part h (fun k f => W k (gateCol (col j f))) (fun k f => W k (upCol (col j f))) (fun f => O (col j f))

/-- What the last block adds. -/
def lastOf (h : Fin 2048 → EReal) (W : Fin 2048 → Fin 11008 → EReal) (O : Fin 5504 → Fin 2048 → EReal) : Fin 2048 → EReal :=
  lastPart h (fun k f => W k (gateCol (col 10 f))) (fun k f => W k (upCol (col 10 f))) (fun f => O (col 10 f))

/-- The sum of the parts of the first `j` blocks, in the order the kernel adds them. -/
def partsTo (h : Fin 2048 → EReal) (W : Fin 2048 → Fin 11008 → EReal) (O : Fin 5504 → Fin 2048 → EReal) (j : ℕ) (n : Fin 2048) : EReal :=
  ∑ i ∈ Finset.range j, partOf h W O i n

/-- The row after the half-step, as the kernel computes it. -/
def rowOut (x g : Fin 2048 → EReal) (W : Fin 2048 → Fin 11008 → EReal) (O : Fin 5504 → Fin 2048 → EReal) (p : Fin 2048 → EReal) :
    Fin 2048 → EReal :=
  closeRow x (fun n => partsTo (nrow x g) W O 10 n + lastOf (nrow x g) W O n) p

end Cert.Ffn

namespace Cert.Kernel2Ideal.Ffn

open Cert.Kernel2Ideal Cert.Kernel2Ideal.Gen Cert.Ffn Idealize.ShloMosaic Idealize.ShloMosaic.TcCoe

variable (m : (ℓ : Loc nD τ sig) → Buf (Elt Ideal) ℓ) (c : Dev nD)

/-- The arguments, by row and column. -/
def X (r : Fin 8192) (k : Fin 2048) : EReal := m ((c : Thread nD τ).loc main_arg0) (ix2 r k)
def G (k : Fin 2048) : EReal := m ((c : Thread nD τ).loc main_arg1) (ix2 0 k)
def W (k : Fin 2048) (p : Fin 11008) : EReal := m ((c : Thread nD τ).loc main_arg2) (ix2 k p)
def O (p : Fin 5504) (n : Fin 2048) : EReal := m ((c : Thread nD τ).loc main_arg3) (ix2 p n)
def P (k : Fin 2048) : EReal := m ((c : Thread nD τ).loc main_arg4) (ix2 0 k)

/-- Where the windows lie at each step. -/
theorem index_facts : ∀ t : Fin cfg0.N,
    win0_0.index t = ![t.val / 11, 0] ∧ win0_1.index t = ![0, 0] ∧ win0_2.index t = ![0, min (512 * (t.val % 11)) 4992]
      ∧ win0_3.index t = ![0, 5504 + min (512 * (t.val % 11)) 4992] ∧ win0_4.index t = ![min (512 * (t.val % 11)) 4992, 0]
      ∧ win0_5.index t = ![0, 0] ∧ win0_6.index t = ![t.val / 11, 0] :=
  (by decide +kernel : ∀ t : Fin grid0.N, _)

/-- The array row that row `R` of step `t`'s block is. -/
def rowAt (t : Fin cfg0.N) (R : Fin 1024) : Fin 8192 :=
  ⟨1024 * (t.val / 11) + R.val, by
    have h := lt_of_lt_of_eq t.isLt (show cfg0.N = 88 from N_0); have := R.isLt; omega⟩

theorem iblk0_apply (t : Fin cfg0.N) (R : Fin 1024) (k : Fin 2048) : iblk m c 0 t (ix2 R k) = X m c (rowAt t R) k := by
  unfold X rowAt
  blk_ext [iblk, V, (index_facts t).1]
theorem iblk1_apply (t : Fin cfg0.N) (k : Fin 2048) : iblk m c 1 t (ix2 0 k) = G m c k := by
  unfold G
  blk_ext [iblk, V, (index_facts t).2.1]
theorem iblk2_apply (t : Fin cfg0.N) (k : Fin 2048) (f : Fin 512) :
    iblk m c 2 t (ix2 k f) = W m c k (gateCol (col (t.val % 11) f)) := by
  unfold W gateCol col
  blk_ext [iblk, V]
  · show win0_2.index t 0 + 1 * k.val = k.val
    rw [(index_facts t).2.2.1]
    simp
  · show win0_2.index t 1 + 1 * f.val = min (512 * (t.val % 11)) 4992 + f.val
    rw [(index_facts t).2.2.1]
    simp [Nat.add_assoc]
theorem iblk3_apply (t : Fin cfg0.N) (k : Fin 2048) (f : Fin 512) :
    iblk m c 3 t (ix2 k f) = W m c k (upCol (col (t.val % 11) f)) := by
  unfold W upCol col
  blk_ext [iblk, V]
  · show win0_3.index t 0 + 1 * k.val = k.val
    rw [(index_facts t).2.2.2.1]
    simp
  · show win0_3.index t 1 + 1 * f.val = 5504 + (min (512 * (t.val % 11)) 4992 + f.val)
    rw [(index_facts t).2.2.2.1]
    simp [Nat.add_assoc]
theorem iblk4_apply (t : Fin cfg0.N) (f : Fin 512) (n : Fin 2048) :
    iblk m c 4 t (ix2 f n) = O m c (col (t.val % 11) f) n := by
  unfold O col
  blk_ext [iblk, V]
  · show win0_4.index t 0 + 1 * f.val = min (512 * (t.val % 11)) 4992 + f.val
    rw [(index_facts t).2.2.2.2.1]
    simp
  · show win0_4.index t 1 + 1 * n.val = n.val
    rw [(index_facts t).2.2.2.2.1]
    simp [Nat.add_assoc]
theorem iblk5_apply (t : Fin cfg0.N) (k : Fin 2048) : iblk m c 5 t (ix2 0 k) = P m c k := by
  unfold P
  blk_ext [iblk, V, (index_facts t).2.2.2.2.2.1]

/-- What the blocks hold after a step: the scratch the normalised rows, the output the parts added so far or, after the last step
    of a block of rows, the rows themselves. -/
def Holds (t : Fin cfg0.N) : Prop := ∀ (R : Fin 1024) (n : Fin 2048),
  (outsAt0 m c t.val t.isLt).2 (ix2 R n) = nrow (X m c (rowAt t R)) (G m c) n
  ∧ (outsAt0 m c t.val t.isLt).1 (ix2 R n)
    = if t.val % 11 = 10 then rowOut (X m c (rowAt t R)) (G m c) (W m c) (O m c) (P m c) n
      else partsTo (nrow (X m c (rowAt t R)) (G m c)) (W m c) (O m c) (t.val % 11 + 1) n

theorem holds_first (t : Fin cfg0.N) (h0 : t.val % 11 = 0) : Holds m c t := by
  intro R n
  have h1 : ¬(1 ≤ t.val % 11 ∧ t.val % 11 ≤ 9) := by omega
  have h2 : ¬t.val % 11 = 10 := by omega
  rw [outsAt0_A m c t h0 h1 h2, if_neg h2]
  dsimp only
  rw [sout_A_apply, out_A_apply]
  simp only [iblk0_apply, iblk1_apply, iblk2_apply, iblk3_apply, iblk4_apply, h0]
  refine ⟨trivial, ?_⟩
  unfold partsTo
  rw [Finset.sum_range_one]
  rfl

/-- A step that is not a first one works on the rows of the step before. -/
theorem rowAt_pred (t : Fin cfg0.N) (h0 : ¬t.val % 11 = 0) (h : t.val - 1 < cfg0.N) (R : Fin 1024) :
    rowAt ⟨t.val - 1, h⟩ R = rowAt t R := by
  unfold rowAt; apply Fin.ext; show 1024 * ((t.val - 1) / 11) + R.val = 1024 * (t.val / 11) + R.val; omega

theorem holds_next (t : Fin cfg0.N) (h0 : ¬t.val % 11 = 0) (h : t.val - 1 < cfg0.N) (ih : Holds m c ⟨t.val - 1, h⟩) : Holds m c t := by
  intro R n
  have hs : (fun k => (outsAt0 m c (t.val - 1) h).2 (ix2 R k)) = nrow (X m c (rowAt t R)) (G m c) :=
    funext fun k => by rw [(ih R k).1, rowAt_pred t h0 h]
  have ho : ∀ n, (outsAt0 m c (t.val - 1) h).1 (ix2 R n)
      = partsTo (nrow (X m c (rowAt t R)) (G m c)) (W m c) (O m c) (t.val % 11) n := fun n => by
    rw [(ih R n).2, if_neg (by show ¬(t.val - 1) % 11 = 10; omega), rowAt_pred t h0 h]
    congr 1
    show (t.val - 1) % 11 + 1 = t.val % 11
    omega
  by_cases h2 : t.val % 11 = 10
  · have h1 : ¬(1 ≤ t.val % 11 ∧ t.val % 11 ≤ 9) := by omega
    rw [outsAt0_C m c t h0 h1 h2, if_pos h2]
    dsimp only
    rw [out_C_apply]
    refine ⟨congrFun hs n, ?_⟩
    simp only [ho, hs, iblk0_apply, iblk2_apply, iblk3_apply, iblk4_apply, iblk5_apply, h2]
    rfl
  · have h1 : 1 ≤ t.val % 11 ∧ t.val % 11 ≤ 9 := by omega
    rw [outsAt0_B m c t h0 h1 h2, if_neg h2]
    dsimp only
    rw [out_B_apply]
    refine ⟨congrFun hs n, ?_⟩
    simp only [ho, hs, iblk2_apply, iblk3_apply, iblk4_apply]
    unfold partsTo
    rw [Finset.sum_range_succ]
    rfl

/-- After every step the blocks hold what they should. -/
theorem holds : ∀ (n : ℕ) (h : n < cfg0.N), Holds m c ⟨n, h⟩
  | 0, h => holds_first m c ⟨0, h⟩ rfl
  | n + 1, h => by
    by_cases h0 : (n + 1) % 11 = 0
    · exact holds_first m c ⟨n + 1, h⟩ h0
    · exact holds_next m c ⟨n + 1, h⟩ h0 (Nat.lt_of_succ_lt h) (holds n (Nat.lt_of_succ_lt h))

end Cert.Kernel2Ideal.Ffn
-- ==== Proof.Ffn.Array.lean ====
/- The result array after the launch: each row the row after the half-step. -/
module

public import proofs.«01_k».proof.Proof.Ffn.Fold

@[expose] public section

noncomputable section

namespace Cert.Kernel2Ideal.Ffn

open Cert.Kernel2Ideal Cert.Kernel2Ideal.Gen Cert.Ffn Idealize.ShloMosaic Idealize.ShloMosaic.TcCoe Idealize.SL.Sem

variable (m : (ℓ : Loc nD τ sig) → Buf (Elt Ideal) ℓ) (ρ : Dev nD → PrngReg) (c : Dev nD)

/-- What the result array ends holding. -/
def result : Buf (Elt Ideal) ((c : Thread nD τ).loc main_v0) := fun i =>
  rowOut (X m c (i 0)) (G m c) (W m c) (O m c) (P m c) (i 1)

theorem array_eq : (dats m 0 c).arrAt 6 cfg0.N = result m c := by
  refine (dats m 0 c).arrAt_eq_of_covers 6 _ (by decide +kernel) fun t hf y => ?_
  have h10 : t.val % 11 = 10 := (flush0_6 t).mp hf
  blk_simp
  rw [after0_6]
  obtain ⟨R, n, rfl⟩ : ∃ (R : Fin 1024) (n : Fin 2048), y = ix2 R n := ⟨y 0, y 1, eq_ix2 y⟩
  have h := (holds m c t.val t.isLt R n).2
  rw [if_pos h10] at h
  refine h.trans ?_
  unfold result
  congr 1
  · congr 1
    unfold rowAt
    apply Fin.ext
    show 1024 * (t.val / 11) + R.val = _
    blk_simp [(index_facts t).2.2.2.2.2.2]
    omega
  · apply Fin.ext
    show n.val = _
    blk_simp [(index_facts t).2.2.2.2.2.2]

/-- The run: the result array at its rows, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 6).trans (array_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 4).trans (((dats m 0 c).arrAt_in 4 rfl _).trans ((A_eq m c 4).trans (V_main_arg3 m c))),
      ((h c).1 5).trans (((dats m 0 c).arrAt_in 5 rfl _).trans ((A_eq m c 5).trans (V_main_arg4 m c)))⟩)
    (run_main m ρ)

end Cert.Kernel2Ideal.Ffn
-- ==== Proof.Ffn.Ref.lean ====
/- What the reference computes, at an element. -/
module

public import proofs.«01_k».proof.Proof.Ffn.Fold
public import proofs.«01_k».proof.Proof.Gen.Reference2Ideal.Run

@[expose] public section

noncomputable section

namespace Cert.Ffn

open Idealize.ShloMosaic

/-- The gated unit as the reference writes it: the gate times its logistic, times the up projection. -/
def silu (g u : EReal) : EReal := g * Ideal.div 1 (1 + Ideal.exp (-g)) * u

/-- The feed-forward layer on a normalised row, as the reference computes it: one sum over all the hidden columns. -/
def layer (h : Fin 2048 → EReal) (W : Fin 2048 → Fin 11008 → EReal) (O : Fin 5504 → Fin 2048 → EReal) (n : Fin 2048) : EReal :=
  ∑ p : Fin 5504, silu (∑ k, h k * W k (gateCol p)) (∑ k, h k * W k (upCol p)) * O p n

end Cert.Ffn

namespace Cert.Reference2Ideal.Ffn

open Cert.Reference2Ideal Cert.Reference2Ideal.Value Cert.Ffn Idealize.ShloMosaic Idealize.ShloMosaic.TcCoe

variable (m : (ℓ : Loc nD τ sig) → Buf (Elt Ideal) ℓ) (c : Dev nD)

/-- The arguments, by row and column. -/
def X (r : Fin 8192) (k : Fin 2048) : EReal := m ((c : Thread nD τ).loc main_arg0) (ix2 r k)
def G (k : Fin 2048) : EReal := m ((c : Thread nD τ).loc main_arg1) (ix2 0 k)
def W (k : Fin 2048) (p : Fin 11008) : EReal := m ((c : Thread nD τ).loc main_arg2) (ix2 k p)
def O (p : Fin 5504) (n : Fin 2048) : EReal := m ((c : Thread nD τ).loc main_arg3) (ix2 p n)
def P (k : Fin 2048) : EReal := m ((c : Thread nD τ).loc main_arg4) (ix2 0 k)

theorem res_apply (r : Fin 8192) (n : Fin 2048) : res_out0 m c (ix2 r n)
    = closeRow (X m c r) (layer (nrow (X m c r) (G m c)) (W m c) (O m c)) (P m c) n := by
  simp only [closeRow, half, nrow, rs, layer, silu, X, G, W, O, P, gateCol, upCol]
  pointwise [res_out0, res_main_v34]

end Cert.Reference2Ideal.Ffn
-- ==== Proof.Ffn.Equation.lean ====
/- The two programs' rows are equal: the gated unit in either form, and the sum over the hidden columns by blocks or at once. -/
module

public import proofs.«01_k».proof.Proof.Ffn.Ref

@[expose] public section

noncomputable section

namespace Cert.Ffn

open Idealize.ShloMosaic

/-- A finite extended real. -/
def IsReal (a : EReal) : Prop := ∃ r : ℝ, a = (r : EReal)

theorem IsReal.mul {a b : EReal} : IsReal a → IsReal b → IsReal (a * b)
  | ⟨r, hr⟩, ⟨s, hs⟩ => ⟨r * s, by rw [hr, hs, EReal.coe_mul]⟩

theorem IsReal.add {a b : EReal} : IsReal a → IsReal b → IsReal (a + b)
  | ⟨r, hr⟩, ⟨s, hs⟩ => ⟨r + s, by rw [hr, hs, EReal.coe_add]⟩

theorem IsReal.sum {ι : Type} (s : Finset ι) (f : ι → EReal) (h : ∀ i, IsReal (f i)) : IsReal (∑ i ∈ s, f i) := by
  classical
  induction s using Finset.induction_on with
  | empty => exact ⟨0, rfl⟩
  | insert a s ha ih => rw [Finset.sum_insert ha]; exact (h a).add ih

theorem isReal_of_ne {a : EReal} (h1 : a ≠ ⊤) (h2 : a ≠ ⊥) : IsReal a := ⟨a.toReal, (EReal.coe_toReal h1 h2).symm⟩

theorem bits_half : Ideal.ofBits .f32 0x3F000000#32 = ((1 / 2 : ℝ) : EReal) := by
  simp [Ideal.ofBits, Ideal.ieee, -EReal.coe_mul]; norm_num

theorem bits_2048 : Ideal.ofBits .f32 0x45000000#32 = ((2048 : ℝ) : EReal) := by
  simp [Ideal.ofBits, Ideal.ieee, -EReal.coe_mul]; norm_num

theorem bits_eps : ∃ e : ℝ, 0 < e ∧ Ideal.ofBits .f32 0x358637BD#32 = (e : EReal) := by
  refine ⟨_, ?_, by simp [Ideal.ofBits, Ideal.ieee, -EReal.coe_mul]; rfl⟩
  norm_num

/-- Half of `1 + tanh (r / 2)` is the logistic of `r`. -/
theorem half_tanh (r : ℝ) : 1 / 2 * r + 1 / 2 * r * Real.tanh (1 / 2 * r) = r * (1 + Real.exp (-r))⁻¹ := by
  rw [Real.tanh_eq_sinh_div_cosh, Real.sinh_eq, Real.cosh_eq]
  have ha : Real.exp (-r) = (Real.exp (1 / 2 * r))⁻¹ * (Real.exp (1 / 2 * r))⁻¹ := by
    rw [← Real.exp_neg, ← Real.exp_add]; congr 1; ring
  rw [ha, Real.exp_neg]
  have := Real.exp_pos (1 / 2 * r)
  generalize Real.exp (1 / 2 * r) = a at *
  have ha' : a ≠ 0 := this.ne'
  have h1 : a * a + 1 ≠ 0 := by positivity
  have h2 : a + a⁻¹ ≠ 0 := by positivity
  have h3 : 1 + a⁻¹ * a⁻¹ ≠ 0 := by positivity
  field_simp
  ring

/-- At a finite gate the unit's two forms agree. -/
theorem act_eq (g u : EReal) (hg : IsReal g) : act g u = silu g u := by
  obtain ⟨r, rfl⟩ := hg
  unfold act silu half
  congr 1
  rw [bits_half, ← EReal.coe_mul, Ideal.tanh_coe, ← EReal.coe_mul, ← EReal.coe_add, half_tanh, EReal.coe_mul]
  congr 1
  rw [← Ideal.logistic_coe]
  rfl

theorem sq_nn (a : EReal) : 0 ≤ a * a := by
  induction a with
  | bot => rw [EReal.bot_mul_bot]; exact le_top
  | top => rw [EReal.top_mul_top]; exact le_top
  | coe r => rw [← EReal.coe_mul]; exact_mod_cast mul_self_nonneg r

/-- Every element of a normalised row with finite gains is finite, whatever the row. -/
theorem nrow_real (x g : Fin 2048 → EReal) (hg : ∀ k, IsReal (g k)) (k : Fin 2048) : IsReal (nrow x g k) := by
  obtain ⟨e, he, hb⟩ := bits_eps
  refine IsReal.mul ?_ (hg k)
  unfold rs
  rw [hb, bits_2048]
  by_cases hx : ∀ k, IsReal (x k)
  · obtain ⟨s, hs⟩ := IsReal.sum Finset.univ (fun k => x k * x k) fun k => (hx k).mul (hx k)
    have h0 : 0 ≤ s := by
      have : (0 : EReal) ≤ ∑ k, x k * x k := Finset.sum_nonneg fun k _ => sq_nn (x k)
      rw [hs] at this; exact_mod_cast this
    refine (hx k).mul ?_
    rw [hs]
    have h2 : Ideal.div (s : EReal) ((2048 : ℝ) : EReal) + (e : EReal) = ((s * 2048⁻¹ + e : ℝ) : EReal) := by
      unfold Ideal.div
      rw [if_neg (by norm_num), ← EReal.coe_inv, ← EReal.coe_mul, ← EReal.coe_add]
    have h3 : 0 < s * 2048⁻¹ + e := by positivity
    rw [h2, Ideal.rsqrt_coe, if_neg (not_lt.mpr h3.le), if_neg h3.ne']
    exact ⟨_, rfl⟩
  · have ht : ∑ k, x k * x k = ⊤ := by
      push Not at hx
      obtain ⟨i, hi⟩ := hx
      have hii : x i * x i = ⊤ := by
        rcases eq_or_ne (x i) ⊤ with h | h
        · rw [h]; rfl
        · rcases eq_or_ne (x i) ⊥ with h' | h'
          · rw [h']; rfl
          · exact absurd (isReal_of_ne h h') hi
      refine top_unique ?_
      rw [← hii]
      exact Finset.single_le_sum (f := fun k => x k * x k) (fun k _ => sq_nn (x k)) (Finset.mem_univ i)
    rw [ht]
    have h2 : Ideal.div ⊤ ((2048 : ℝ) : EReal) + (e : EReal) = ⊤ := by
      unfold Ideal.div
      rw [if_neg (by norm_num), ← EReal.coe_inv, EReal.top_mul_coe_of_pos (by norm_num), EReal.top_add_coe]
    rw [h2, Ideal.rsqrt_top, mul_zero]
    exact ⟨0, rfl⟩

end Cert.Ffn
-- ==== Proof.Ffn.Blocks.lean ====
/- The sum over the hidden columns by blocks is the sum over all of them. -/
module

public import proofs.«01_k».proof.Proof.Ffn.Equation

@[expose] public section

noncomputable section

namespace Cert.Ffn

open Idealize.ShloMosaic

/-- A function of the hidden columns, continued by zero. -/
def ext0 (F : Fin 5504 → EReal) (p : ℕ) : EReal := if h : p < 5504 then F ⟨p, h⟩ else 0

theorem ext0_val (F : Fin 5504 → EReal) (p : Fin 5504) : ext0 F p.val = F p := dif_pos p.isLt

theorem sum_range_blocks (f : ℕ → EReal) (b : ℕ) : ∀ n, ∑ p ∈ Finset.range (b * n), f p = ∑ j ∈ Finset.range n, ∑ i ∈ Finset.range b, f (b * j + i)
  | 0 => by simp
  | n + 1 => by rw [Nat.mul_succ, Finset.sum_range_add, Finset.sum_range_succ, sum_range_blocks f b n]

theorem sum_range_join (f : ℕ → EReal) (a b c : ℕ) (h : a + b = c) :
    ∑ p ∈ Finset.range a, f p + ∑ p ∈ Finset.range b, f (a + p) = ∑ p ∈ Finset.range c, f p := by
  rw [← h, Finset.sum_range_add]

/-- Ten blocks of 512 columns and the last 384 columns of an eleventh, which overlaps the tenth, are all the columns. -/
theorem blocks_sum (F : Fin 5504 → EReal) :
    (∑ j ∈ Finset.range 10, ∑ f : Fin 512, F (col j f)) + (∑ f : Fin 512, if f.val < 128 then 0 else F (col 10 f)) = ∑ p, F p := by
  have h1 : ∀ j ∈ Finset.range 10, ∑ f : Fin 512, F (col j f) = ∑ i ∈ Finset.range 512, ext0 F (512 * j + i) := fun j hj => by
    rw [Finset.sum_range]
    refine Finset.sum_congr rfl fun f _ => ?_
    rw [← ext0_val F]
    congr 1
    show min (512 * j) 4992 + f.val = 512 * j + f.val
    have := Finset.mem_range.mp hj
    omega
  have h2 : (∑ f : Fin 512, if f.val < 128 then 0 else F (col 10 f)) = ∑ i ∈ Finset.range 384, ext0 F (512 * 10 + i) := by
    have h : (∑ f : Fin 512, if f.val < 128 then 0 else F (col 10 f))
        = ∑ i ∈ Finset.range (128 + 384), if i < 128 then 0 else ext0 F (4992 + i) := by
      rw [Finset.sum_range]
      refine Finset.sum_congr rfl fun f _ => ?_
      rw [← ext0_val F]
      rfl
    rw [h, Finset.sum_range_add, Finset.sum_eq_zero (fun i hi => if_pos (Finset.mem_range.mp hi)), zero_add]
    refine Finset.sum_congr rfl fun i _ => ?_
    rw [if_neg (by omega)]
    congr 1
    omega
  have h3 : ∑ p, F p = ∑ p ∈ Finset.range 5504, ext0 F p := by
    rw [Finset.sum_range]
    exact Finset.sum_congr rfl fun p _ => (ext0_val F p).symm
  rw [Finset.sum_congr rfl h1, h2, h3, ← sum_range_blocks (ext0 F) 512 10]
  exact sum_range_join (ext0 F) (512 * 10) 384 5504 (by norm_num)

/-- With finite gains and finite gate weights the kernel's row is the reference's. -/
theorem rowOut_eq (x g : Fin 2048 → EReal) (W : Fin 2048 → Fin 11008 → EReal) (O : Fin 5504 → Fin 2048 → EReal) (p : Fin 2048 → EReal)
    (hg : ∀ k, IsReal (g k)) (hW : ∀ k q, IsReal (W k (gateCol q))) :
    rowOut x g W O p = closeRow x (layer (nrow x g) W O) p := by
  refine congrArg (fun s => closeRow x s p) (funext fun n => ?_)
  have hu : ∀ q : Fin 5504, gunit (nrow x g) (fun k => W k (gateCol q)) (fun k => W k (upCol q))
      = silu (∑ k, nrow x g k * W k (gateCol q)) (∑ k, nrow x g k * W k (upCol q)) := fun q =>
    act_eq _ _ (IsReal.sum _ _ fun k => (nrow_real x g hg k).mul (hW k _))
  unfold layer
  rw [← blocks_sum]
  unfold partsTo partOf lastOf part lastPart
  simp only [hu]
  congr 1
  refine Finset.sum_congr rfl fun f _ => ?_
  unfold late
  split
  · exact zero_mul _
  · rfl

end Cert.Ffn
-- ==== Proof.Ffn.Pre.lean ====
/- What the precondition says of the gains and of the gate weights: they are finite. -/
module

public import proofs.«01_k».proof.Defs
public import proofs.«01_k».proof.Proof.Gen.Pre_gate_finite
public import proofs.«01_k».proof.Proof.Ffn.Array
public import proofs.«01_k».proof.Proof.Ffn.Blocks
public import Idealize.ShloMosaic.Lib.ReduceAll
public import Idealize.ShloMosaic.Lib.Pointwise

@[expose] public section

noncomputable section

namespace Cert.Ffn

open Idealize.ShloMosaic

theorem ofBool_one (b : Bool) (h : BitVec.ofBool b = 1#1) : b = true := by
  revert b; decide

theorem and_eq_one (x y : BitVec 1) (h : IntOp.andi x y = 1#1) : x = 1#1 ∧ y = 1#1 := by
  revert x y; decide

theorem bits_inf : Ideal.ofBits .f32 0x7F800000#32 = ⊤ := by
  simp [Ideal.ofBits, Ideal.ieee]

/-- A value whose magnitude is below infinity is finite. -/
theorem isReal_of_cmp (a : EReal) (h : Ideal.cmp .olt (max a (-a)) ⊤ = 1#1) : IsReal a := by
  have h' : max a (-a) < ⊤ := of_decide_eq_true (ofBool_one _ h)
  induction a with
  | bot => simp at h'
  | top => simp at h'
  | coe r => exact ⟨r, rfl⟩

end Cert.Ffn

namespace Cert.Kernel2Ideal.Ffn

open Cert.Kernel2Ideal Cert.Ffn Idealize.ShloMosaic Idealize.ShloMosaic.TcCoe

variable (m : (ℓ : Loc nD τ sig) → Buf (Elt Ideal) ℓ) (c : Dev nD)

instance : Subsingleton Cert.Pre_gate_finite.S_.Idx := ⟨fun a b => funext fun i => i.elim0⟩

theorem finite (h : Pre_Kernel2Ideal_gate_finite m) : (∀ k, IsReal (G m c k)) ∧ ∀ k q, IsReal (W m c k (gateCol q)) := by
  have e := congrFun (h c) (fun i => i.elim0)
  dsimp only [Cert.Pre_gate_finite.fn] at e
  obtain ⟨e1, e2⟩ := and_eq_one _ _ e
  refine ⟨fun k => ?_, fun k q => ?_⟩
  · have := Host.reduce_andi_all _ _ _ _ _ e1 (ix2 0 k)
    refine isReal_of_cmp _ ?_
    rw [← bits_inf]
    exact this
  · have := Host.reduce_andi_all _ _ _ _ _ e2 (ix2 k q)
    refine isReal_of_cmp _ ?_
    rw [← bits_inf]
    refine Eq.trans ?_ this
    unfold W gateCol
    pointwise
    rfl

end Cert.Kernel2Ideal.Ffn
-- ==== Proof.Ffn.Claims.lean ====
/- The claims about the feed-forward call. -/
module

public import proofs.«01_k».proof.Proof.Ffn.Pre
public import proofs.«01_k».proof.Proof.Gen.Kernel2.Frame

@[expose] public section

noncomputable section

namespace Cert.Ffn

open Idealize.ShloMosaic Idealize.ShloMosaic.TcCoe

theorem frame_p : Cert.quiescent_Kernel2 := fun m ρ _ => Cert.Kernel2.Gen.frame m ρ

theorem frame_pi : Cert.quiescent_Kernel2Ideal := fun m ρ _ => Cert.Kernel2Ideal.Gen.frame m ρ

theorem frame_pi_pre : Cert.quiescent_Kernel2Ideal_pre_gate_finite := fun m ρ _ => Cert.Kernel2Ideal.Gen.frame m ρ

theorem frame_ri : Cert.quiescent_Reference2Ideal := fun m ρ _ =>
  (θ_run Cert.Reference2Ideal.defs _ _).mono
    (fun r h => ⟨fun c => (h c).2, Idealize.ShloMosaic.sem_eq_zero_of_no_sems (by decide) r.2⟩) (Cert.Reference2Ideal.Value.run (F := Ideal) m ρ)

theorem frame_ri_pre : Cert.quiescent_Reference2Ideal_pre_gate_finite := fun m ρ _ => frame_ri m ρ trivial

theorem preserves : Cert.preserves_Kernel2_Kernel2Ideal := trivial

/-- On equal arguments with finite gains and gate weights the kernel's result array is the reference's. -/
theorem algebraic : Cert.algebraic_Kernel2Ideal_Reference2Ideal_pre_gate_finite := by
  intro m ρ m' ρ' hpre hagree
  refine ⟨_, Cert.Kernel2Ideal.Ffn.run m ρ, ?_⟩
  refine (θ_run Cert.Reference2Ideal.defs _ _).mono (fun _ h c => ⟨(h c).1.trans ?_, (h c).2⟩) (Cert.Reference2Ideal.Value.run (F := Ideal) m' ρ')
  obtain ⟨h0, h1, h2, h3, h4⟩ := hagree c
  obtain ⟨hG, hW⟩ := Cert.Kernel2Ideal.Ffn.finite m c hpre
  have eX : Cert.Reference2Ideal.Ffn.X m' c = Cert.Kernel2Ideal.Ffn.X m c := funext fun r => funext fun k => congrFun h0 (ix2 r k)
  have eG : Cert.Reference2Ideal.Ffn.G m' c = Cert.Kernel2Ideal.Ffn.G m c := funext fun k => congrFun h1 (ix2 0 k)
  have eW : Cert.Reference2Ideal.Ffn.W m' c = Cert.Kernel2Ideal.Ffn.W m c := funext fun k => funext fun p => congrFun h2 (ix2 k p)
  have eO : Cert.Reference2Ideal.Ffn.O m' c = Cert.Kernel2Ideal.Ffn.O m c := funext fun p => funext fun n => congrFun h3 (ix2 p n)
  have eP : Cert.Reference2Ideal.Ffn.P m' c = Cert.Kernel2Ideal.Ffn.P m c := funext fun k => congrFun h4 (ix2 0 k)
  funext i
  obtain ⟨r, n, rfl⟩ : ∃ (r : Fin 8192) (n : Fin 2048), i = ix2 r n := ⟨i 0, i 1, eq_ix2 i⟩
  refine (Cert.Reference2Ideal.Ffn.res_apply m' c r n).trans ?_
  rw [eX, eG, eW, eO, eP]
  exact (congrFun (rowOut_eq _ _ _ _ _ hG hW) n).symm

end Cert.Ffn
-- ==== Proof.Mix.Spec.lean ====
/- The gated mix of the two branches on one row, and what the kernel's two stored values and the reference hold in these
   terms, element by element. -/
module

public import proofs.«01_k».proof.Proof.Ffn.Spec
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

noncomputable section

namespace Cert.Mix

open Idealize.ShloMosaic Cert.Ffn

/-- The two branches' rows through their weights, gated and added. -/
def mixed (a b : Fin 1024 → EReal) (ga gb : Fin 2048 → EReal) (wa wb : Fin 1024 → Fin 2048 → EReal) (k : Fin 2048) : EReal :=
  ga k * (∑ i, a i * wa i k) + gb k * (∑ i, b i * wb i k)

/-- The mixed row `v` through the output weights, normalised, on the residual `x`. -/
def outRow (v x g : Fin 2048 → EReal) (wo : Fin 2048 → Fin 2048 → EReal) (n : Fin 2048) : EReal :=
  x n + nrow (fun n => ∑ k, v k * wo k n) g n

end Cert.Mix

namespace Cert.Kernel5Ideal.Mix

open Cert.Kernel5Ideal Cert.Kernel5Ideal.Gen Cert.Ffn Cert.Mix Idealize.ShloMosaic

theorem pay_apply (a : Vec Ideal S256x1024 .bf16) (wa : Vec Ideal S1024x2048 .bf16) (b : Vec Ideal S256x1024 .bf16)
    (wb : Vec Ideal S1024x2048 .bf16) (ga gb : Vec Ideal S256x2048 .bf16) (wo : Vec Ideal S2048x2048 .bf16)
    (x : Vec Ideal S256x2048 .f32) (g : Vec Ideal S1x2048 .f32) (r : Fin 256) (n : Fin 2048) :
    k0_pay1 a wa b wb ga gb wo x g (ix2 r n)
      = outRow (mixed (fun i => a (ix2 r i)) (fun i => b (ix2 r i)) (fun k => ga (ix2 r k)) (fun k => gb (ix2 r k))
            (fun i k => wa (ix2 i k)) (fun i k => wb (ix2 i k)))
          (fun k => x (ix2 r k)) (fun k => g (ix2 0 k)) (fun k n => wo (ix2 k n)) n := by
  unfold outRow nrow rs mixed
  pointwise [k0_pay1]

theorem pay2_eq : @k0_pay2 Ideal _ = k0_pay1 := rfl

/-- A chunk of rows, from the rows it loads. -/
theorem pay_of (a : Vec Ideal S256x1024 .bf16) (wa : Vec Ideal S1024x2048 .bf16) (b : Vec Ideal S256x1024 .bf16)
    (wb : Vec Ideal S1024x2048 .bf16) (ga gb : Vec Ideal S256x2048 .bf16) (wo : Vec Ideal S2048x2048 .bf16)
    (x : Vec Ideal S256x2048 .f32) (g : Vec Ideal S1x2048 .f32) (r : Fin 256) (n : Fin 2048)
    (A B : Fin 1024 → EReal) (GA GB X : Fin 2048 → EReal)
    (hA : ∀ i, a (ix2 r i) = A i) (hB : ∀ i, b (ix2 r i) = B i) (hGA : ∀ k, ga (ix2 r k) = GA k)
    (hGB : ∀ k, gb (ix2 r k) = GB k) (hX : ∀ k, x (ix2 r k) = X k) :
    k0_pay1 a wa b wb ga gb wo x g (ix2 r n)
      = outRow (mixed A B GA GB (fun i k => wa (ix2 i k)) (fun i k => wb (ix2 i k)))
          X (fun k => g (ix2 0 k)) (fun k n => wo (ix2 k n)) n := by
  obtain rfl : (fun i => a (ix2 r i)) = A := funext hA
  obtain rfl : (fun i => b (ix2 r i)) = B := funext hB
  obtain rfl : (fun k => ga (ix2 r k)) = GA := funext hGA
  obtain rfl : (fun k => gb (ix2 r k)) = GB := funext hGB
  obtain rfl : (fun k => x (ix2 r k)) = X := funext hX
  exact pay_apply a wa b wb ga gb wo x g r n

/-- The rows a chunk of 256 rows starting at row `o` loads. -/
theorem ld_chunk {e : EltTy} {w : ℕ} (X : Vec Ideal ⟨2, ![512, w]⟩ e) (o : ℕ)
    (inb : ∀ a, ![o, 0] a + ![256, w] a ≤ (⟨2, ![512, w]⟩ : Shape).size a)
    (r : Fin 256) (R : Fin 512) (hR : R.val = o + r.val) (k : Fin w) :
    View.ld X (Rect.unit (s := ⟨2, ![512, w]⟩) ![o, 0] ![256, w] inb) (ix2 r k) = X (ix2 R k) :=
  View.ld_unit_apply_of X _ _ inb _ _ fun a => by
    match a with
    | ⟨0, _⟩ => exact hR
    | ⟨1, _⟩ => exact (Nat.zero_add _).symm

variable (c : Dev nD) (i : grid0.Coords)
  (arg1 : Memref sig .tc .vmem S512x1024 .bf16) (harg1 : arg1.IsWhole)
  (arg2 : Memref sig .tc .vmem S512x1024 .bf16) (harg2 : arg2.IsWhole)
  (arg3 : Memref sig .tc .vmem S512x2048 .bf16) (harg3 : arg3.IsWhole)
  (arg4 : Memref sig .tc .vmem S512x2048 .bf16) (harg4 : arg4.IsWhole)
  (arg5 : Memref sig .tc .vmem S1024x2048 .bf16) (harg5 : arg5.IsWhole)
  (arg6 : Memref sig .tc .vmem S1024x2048 .bf16) (harg6 : arg6.IsWhole)
  (arg7 : Memref sig .tc .vmem S2048x2048 .bf16) (harg7 : arg7.IsWhole)
  (arg8 : Memref sig .tc .vmem S512x2048 .f32) (harg8 : arg8.IsWhole)
  (arg9 : Memref sig .tc .vmem S1x2048 .f32) (harg9 : arg9.IsWhole)
  (arg10 : Memref sig .tc .vmem S512x2048 .f32) (harg10 : arg10.IsWhole)
  (x0 x1 : Vec Ideal S512x1024 .bf16) (x2 x3 : Vec Ideal S512x2048 .bf16) (x4 x5 : Vec Ideal S1024x2048 .bf16)
  (x6 : Vec Ideal S2048x2048 .bf16) (x7 : Vec Ideal S512x2048 .f32) (x8 : Vec Ideal S1x2048 .f32)
  (R : Fin 512) (n : Fin 2048)

/-- What a grid point leaves in its output block. -/
theorem out_apply :
    out0_A_9 c i arg1 harg1 arg2 harg2 arg3 harg3 arg4 harg4 arg5 harg5 arg6 harg6 arg7 harg7 arg8 harg8 arg9 harg9 arg10 harg10
        x0 x1 x2 x3 x4 x5 x6 x7 x8 (ix2 R n)
      = outRow (mixed (fun i => x0 (ix2 R i)) (fun i => x1 (ix2 R i)) (fun k => x2 (ix2 R k)) (fun k => x3 (ix2 R k))
            (fun i k => x4 (ix2 i k)) (fun i k => x5 (ix2 i k)))
          (fun k => x7 (ix2 R k)) (fun k => x8 (ix2 0 k)) (fun k n => x6 (ix2 k n)) n := by
  frame_out
  simp only [pay2_eq]
  canon_tiles z h
  all_goals
    idx_vars z
    obtain rfl : n = z1 := Fin.ext h1
    exact pay_of _ _ _ _ _ _ _ _ _ _ _ _ _ _ _ _ (fun k => ld_chunk _ _ _ _ _ (by simpa using h0) k)
      (fun k => ld_chunk _ _ _ _ _ (by simpa using h0) k) (fun k => ld_chunk _ _ _ _ _ (by simpa using h0) k)
      (fun k => ld_chunk _ _ _ _ _ (by simpa using h0) k) (fun k => ld_chunk _ _ _ _ _ (by simpa using h0) k)

end Cert.Kernel5Ideal.Mix

namespace Cert.Reference5Ideal.Mix

open Cert.Reference5Ideal Cert.Reference5Ideal.Value Cert.Ffn Cert.Mix Idealize.ShloMosaic Idealize.ShloMosaic.TcCoe Idealize.SL.Sem

variable (m : (ℓ : Loc nD τ sig) → Buf (Elt Ideal) ℓ)

/-- The reference's run: its result element by element, the arguments unchanged. -/
theorem run (ρ : Dev nD → PrngReg) : θ_run defs (onTc (τ := τ) (main (F := Ideal))) ⟨m, fun _ => 0, ρ⟩ fun r => ∀ c : Dev nD,
      (∀ (R : Fin 8192) (n : Fin 2048), r.2.mem ((c : Thread nD τ).loc main_v27) (ix2 R n)
        = outRow (mixed (fun i => m ((c : Thread nD τ).loc main_arg0) (ix2 R i)) (fun i => m ((c : Thread nD τ).loc main_arg1) (ix2 R i))
            (fun k => m ((c : Thread nD τ).loc main_arg2) (ix2 R ⟨k.val, by omega⟩))
            (fun k => m ((c : Thread nD τ).loc main_arg2) (ix2 R ⟨2048 + k.val, by omega⟩))
            (fun i k => m ((c : Thread nD τ).loc main_arg3) (ix2 i k)) (fun i k => m ((c : Thread nD τ).loc main_arg4) (ix2 i k)))
          (fun k => m ((c : Thread nD τ).loc main_arg6) (ix2 R k)) (fun k => m ((c : Thread nD τ).loc main_arg7) (ix2 0 k))
          (fun k n => m ((c : Thread nD τ).loc main_arg5) (ix2 k n)) n)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) := by
  refine (θ_run defs _ _).mono (fun r h c => ⟨fun R n => (congrFun (h c).1 (ix2 R n)).trans ?_, (h c).2⟩) (Value.run (F := Ideal) m ρ)
  simp only [outRow, nrow, rs, mixed]
  pointwise []

end Cert.Reference5Ideal.Mix
-- ==== Proof.Mix.Array.lean ====
/- The array the mix call leaves: every row the mixed row. -/
module

public import proofs.«01_k».proof.Proof.Mix.Spec

@[expose] public section

noncomputable section

namespace Cert.Kernel5Ideal.Mix

open Cert.Kernel5Ideal Cert.Kernel5Ideal.Gen Cert.Ffn Cert.Mix Idealize.ShloMosaic Idealize.ShloMosaic.TcCoe Idealize.SL.Sem
open Idealize.ShloMosaic.Pipeline (Window)

variable (m : (ℓ : Loc nD τ sig) → Buf (Elt Ideal) ℓ) (c : Dev nD)

/-- Where the windows lie at each step. -/
theorem index_facts : ∀ t : Fin cfg0.N,
    win0_0.index t = ![t.val, 0] ∧ win0_1.index t = ![t.val, 0] ∧ win0_2.index t = ![t.val, 0]
      ∧ win0_3.index t = ![t.val, 1] ∧ win0_4.index t = ![0, 0] ∧ win0_5.index t = ![0, 0]
      ∧ win0_6.index t = ![0, 0] ∧ win0_7.index t = ![t.val, 0] ∧ win0_8.index t = ![0, 0] ∧ win0_9.index t = ![t.val, 0] :=
  (by decide +kernel : ∀ t : Fin grid0.N, _)

/-- The array row that row `R` of step `t`'s block is. -/
def rowAt (t : Fin cfg0.N) (R : Fin 512) : Fin 8192 :=
  ⟨512 * t.val + R.val, by
    have h := lt_of_lt_of_eq t.isLt (show cfg0.N = 16 from N_0); have := R.isLt; omega⟩

theorem iblk0_apply (t : Fin cfg0.N) (R : Fin 512) (k : Fin 1024) :
    iblk m c 0 t (ix2 R k) = m ((c : Thread nD τ).loc main_arg0) (ix2 (rowAt t R) k) := by
  unfold rowAt
  blk_ext [iblk, V, (index_facts t).1]
theorem iblk1_apply (t : Fin cfg0.N) (R : Fin 512) (k : Fin 1024) :
    iblk m c 1 t (ix2 R k) = m ((c : Thread nD τ).loc main_arg1) (ix2 (rowAt t R) k) := by
  unfold rowAt
  blk_ext [iblk, V, (index_facts t).2.1]
theorem iblk4_apply (t : Fin cfg0.N) (i : Fin 1024) (k : Fin 2048) :
    iblk m c 4 t (ix2 i k) = m ((c : Thread nD τ).loc main_arg3) (ix2 i k) := by
  blk_ext [iblk, V, (index_facts t).2.2.2.2.1]
theorem iblk5_apply (t : Fin cfg0.N) (i : Fin 1024) (k : Fin 2048) :
    iblk m c 5 t (ix2 i k) = m ((c : Thread nD τ).loc main_arg4) (ix2 i k) := by
  blk_ext [iblk, V, (index_facts t).2.2.2.2.2.1]
theorem iblk6_apply (t : Fin cfg0.N) (i k : Fin 2048) :
    iblk m c 6 t (ix2 i k) = m ((c : Thread nD τ).loc main_arg5) (ix2 i k) := by
  blk_ext [iblk, V, (index_facts t).2.2.2.2.2.2.1]
theorem iblk7_apply (t : Fin cfg0.N) (R : Fin 512) (k : Fin 2048) :
    iblk m c 7 t (ix2 R k) = m ((c : Thread nD τ).loc main_arg6) (ix2 (rowAt t R) k) := by
  unfold rowAt
  blk_ext [iblk, V, (index_facts t).2.2.2.2.2.2.2.1]
theorem iblk8_apply (t : Fin cfg0.N) (k : Fin 2048) :
    iblk m c 8 t (ix2 0 k) = m ((c : Thread nD τ).loc main_arg7) (ix2 0 k) := by
  blk_ext [iblk, V, (index_facts t).2.2.2.2.2.2.2.2.1]

theorem X2_apply (t : Fin cfg0.N) (R : Fin 512) (k : Fin 2048) :
    X0_2 m c t (ix2 R k) = m ((c : Thread nD τ).loc main_arg2) (ix2 (rowAt t R) ⟨k.val, by omega⟩) := by
  unfold rowAt X0_2 Window.fill
  rw [dif_pos (moved0_2 t _)]
  blk_ext [iblk, V, (index_facts t).2.2.1]
theorem X3_apply (t : Fin cfg0.N) (R : Fin 512) (k : Fin 2048) :
    X0_3 m c t (ix2 R k) = m ((c : Thread nD τ).loc main_arg2) (ix2 (rowAt t R) ⟨2048 + k.val, by omega⟩) := by
  unfold rowAt X0_3 Window.fill
  rw [dif_pos (moved0_3 t _)]
  blk_ext [iblk, V, (index_facts t).2.2.2.1]

/-- What the result array ends holding. -/
def result : Buf (Elt Ideal) ((c : Thread nD τ).loc main_v0) := fun j =>
  outRow (mixed (fun i => m ((c : Thread nD τ).loc main_arg0) (ix2 (j 0 : Fin 8192) i))
      (fun i => m ((c : Thread nD τ).loc main_arg1) (ix2 (j 0 : Fin 8192) i))
      (fun k => m ((c : Thread nD τ).loc main_arg2) (ix2 (j 0 : Fin 8192) ⟨k.val, by omega⟩))
      (fun k => m ((c : Thread nD τ).loc main_arg2) (ix2 (j 0 : Fin 8192) ⟨2048 + k.val, by omega⟩))
      (fun i k => m ((c : Thread nD τ).loc main_arg3) (ix2 i k)) (fun i k => m ((c : Thread nD τ).loc main_arg4) (ix2 i k)))
    (fun k => m ((c : Thread nD τ).loc main_arg6) (ix2 (j 0 : Fin 8192) k)) (fun k => m ((c : Thread nD τ).loc main_arg7) (ix2 0 k))
    (fun k n => m ((c : Thread nD τ).loc main_arg5) (ix2 k n)) (j 1)

theorem array_eq : (dats m 0 c).arrAt 9 cfg0.N = result m c := by
  refine (dats m 0 c).arrAt_eq_of_covers 9 _ (by decide +kernel) fun t hf y => ?_
  blk_simp
  rw [after0_9]
  obtain ⟨R, n, rfl⟩ : ∃ (R : Fin 512) (n : Fin 2048), y = ix2 R n := ⟨y 0, y 1, eq_ix2 y⟩
  unfold outsAt0
  rw [out_apply]
  simp only [iblk0_apply, iblk1_apply, X2_apply, X3_apply, iblk4_apply, iblk5_apply, iblk6_apply, iblk7_apply, iblk8_apply]
  refine Eq.trans (b := result m c (ix2 (rowAt t R) n)) rfl (congrArg (result m c) ?_)
  funext a
  apply Fin.ext
  unfold rowAt
  match a with
  | ⟨0, _⟩ =>
    show 512 * t.val + R.val = _
    blk_simp [(index_facts t).2.2.2.2.2.2.2.2.2]
    omega
  | ⟨1, _⟩ =>
    show n.val = _
    blk_simp [(index_facts t).2.2.2.2.2.2.2.2.2]

/-- The run: the result array at its rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (array_eq m c), (h c).2⟩) (Value.run_blocks m ρ)

end Cert.Kernel5Ideal.Mix
-- ==== Proof.Mix.Claims.lean ====
/- The claims about the mix call. -/
module

public import proofs.«01_k».proof.Defs
public import proofs.«01_k».proof.Proof.Mix.Array
public import proofs.«01_k».proof.Proof.Gen.Kernel5.Frame

@[expose] public section

noncomputable section

namespace Cert.Mix

open Idealize.ShloMosaic Idealize.ShloMosaic.TcCoe

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono
    (fun r h => ⟨fun c => (h c).2, Idealize.ShloMosaic.sem_eq_zero_of_no_sems (by decide) r.2⟩) (Cert.Reference5Ideal.Value.run (F := Ideal) m ρ)

theorem preserves : Cert.preserves_Kernel5_Kernel5Ideal := trivial

/-- On equal arguments the kernel's result array is the reference's. -/
theorem algebraic : Cert.algebraic_Kernel5Ideal_Reference5Ideal := by
  intro m ρ m' ρ' _ hagree
  refine ⟨_, Cert.Kernel5Ideal.Mix.run m ρ, ?_⟩
  refine (θ_run Cert.Reference5Ideal.defs _ _).mono (fun _ h c => ⟨?_, (h c).2⟩) (Cert.Reference5Ideal.Mix.run m' ρ')
  obtain ⟨h0, h1, h2, h3, h4, h5, h6, h7⟩ := hagree c
  funext i
  obtain ⟨r, n, rfl⟩ : ∃ (r : Fin 8192) (n : Fin 2048), i = ix2 r n := ⟨i 0, i 1, eq_ix2 i⟩
  refine ((h c).1 r n).trans ?_
  rw [h0, h1, h2, h3, h4, h5, h6, h7]
  rfl

end Cert.Mix
-- ==== Proof.Proj.Runs.lean ====
module

public import proofs.«01_k».proof.Proof.Gen.Kernel3Ideal.Frame
public import proofs.«01_k».proof.Proof.Gen.Kernel3Ideal.Skeleton
public import Idealize.ShloMosaic.Lib.Pipeline.TableIdle

/-!
What one grid point of the projection call leaves in its output blocks.

The body has three branches on the column block: a block of gates, a block of plain projections, and
the last block, of which only the left half lies inside the result.  Each branch is run once, on any
buffers, and yields the list of stores it made into the three output blocks.
-/

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body, run from blocks holding `x0` to `x3` and from output blocks and scratch holding anything,
leaves the inputs as they were and the three output blocks with the stores `L4`, `L5`, `L6` made. -/
def Runs (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x11008 .f32) (harg4 : arg4.IsWhole) (arg5 : Memref sig .tc .vmem S128x2048 .f32) (harg5 : arg5.IsWhole) (arg6 : Memref sig .tc .vmem S2048x512 .bf16) (harg6 : arg6.IsWhole) (arg7 : Memref sig .tc .vmem S64x11008 .bf16) (harg7 : arg7.IsWhole) (arg8 : Memref sig .tc .vmem S128x2048 .bf16) (harg8 : arg8.IsWhole) (arg9 : Memref sig .tc .vmem S2048x512 .bf16) (harg9 : arg9.IsWhole) (x0 : Vec F S2048x2048 .bf16) (x1 : Vec F S2048x512 .f32) (x2 : Vec F S64x11008 .f32) (x3 : Vec F S128x2048 .f32)
    (L4 : List (View.Piece (Elt F) S2048x512 .bf16)) (L5 : List (View.Piece (Elt F) S64x11008 .bf16))
    (L6 : List (View.Piece (Elt F) S128x2048 .bf16)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} f)) -∗ K ⟨⟩))
      ⊢ wp frame (wpE (defs₀ (F := F)) Variants.none c none) E (cc0_proj i arg2 harg2 arg3 harg3 arg4 harg4 arg5 harg5 arg6 harg6 arg7 harg7 arg8 harg8 arg9 harg9) K

end Cert.Kernel3Ideal.Proj

end
-- ==== Proof.Proj.RunGate.lean ====
module

public import proofs.«01_k».proof.Proof.Proj.Runs

/-! The stores of one branch of the projection body. -/

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A block of gates: the stores its branch makes, found by running it. -/
def runGate (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x11008 .f32) (harg4 : arg4.IsWhole) (arg5 : Memref sig .tc .vmem S128x2048 .f32) (harg5 : arg5.IsWhole) (arg6 : Memref sig .tc .vmem S2048x512 .bf16) (harg6 : arg6.IsWhole) (arg7 : Memref sig .tc .vmem S64x11008 .bf16) (harg7 : arg7.IsWhole) (arg8 : Memref sig .tc .vmem S128x2048 .bf16) (harg8 : arg8.IsWhole) (arg9 : Memref sig .tc .vmem S2048x512 .bf16) (harg9 : arg9.IsWhole) (h1 : k0_cond1 i = 1#1) (h2 : ¬k0_cond2 i = 1#1) (h3 : ¬k0_cond3 i = 1#1) (x0 : Vec F S2048x2048 .bf16) (x1 : Vec F S2048x512 .f32) (x2 : Vec F S64x11008 .f32) (x3 : Vec F S128x2048 .f32) :
    Σ' (L4 : List (View.Piece (Elt F) S2048x512 .bf16)) (L5 : List (View.Piece (Elt F) S64x11008 .bf16)),
      { L6 : List (View.Piece (Elt F) S128x2048 .bf16) // Runs c i arg2 harg2 arg3 harg3 arg4 harg4 arg5 harg5 arg6 harg6 arg7 harg7 arg8 harg8 arg9 harg9 x0 x1 x2 x3 L4 L5 L6 } := by
  refine ⟨?_, ?_, ?_, fun E K => ?run⟩
  case run =>
    simp only [cc0_proj_eq_skeleton]; unfold cc0_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS

end Cert.Kernel3Ideal.Proj

end
-- ==== Proof.Proj.RunPlain.lean ====
module

public import proofs.«01_k».proof.Proof.Proj.Runs

/-! The stores of one branch of the projection body. -/

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A block of plain projections: the stores its branch makes, found by running it. -/
def runPlain (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x11008 .f32) (harg4 : arg4.IsWhole) (arg5 : Memref sig .tc .vmem S128x2048 .f32) (harg5 : arg5.IsWhole) (arg6 : Memref sig .tc .vmem S2048x512 .bf16) (harg6 : arg6.IsWhole) (arg7 : Memref sig .tc .vmem S64x11008 .bf16) (harg7 : arg7.IsWhole) (arg8 : Memref sig .tc .vmem S128x2048 .bf16) (harg8 : arg8.IsWhole) (arg9 : Memref sig .tc .vmem S2048x512 .bf16) (harg9 : arg9.IsWhole) (h1 : ¬k0_cond1 i = 1#1) (h2 : k0_cond2 i = 1#1) (h3 : ¬k0_cond3 i = 1#1) (x0 : Vec F S2048x2048 .bf16) (x1 : Vec F S2048x512 .f32) (x2 : Vec F S64x11008 .f32) (x3 : Vec F S128x2048 .f32) :
    Σ' (L4 : List (View.Piece (Elt F) S2048x512 .bf16)) (L5 : List (View.Piece (Elt F) S64x11008 .bf16)),
      { L6 : List (View.Piece (Elt F) S128x2048 .bf16) // Runs c i arg2 harg2 arg3 harg3 arg4 harg4 arg5 harg5 arg6 harg6 arg7 harg7 arg8 harg8 arg9 harg9 x0 x1 x2 x3 L4 L5 L6 } := by
  refine ⟨?_, ?_, ?_, fun E K => ?run⟩
  case run =>
    simp only [cc0_proj_eq_skeleton]; unfold cc0_proj_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS

end Cert.Kernel3Ideal.Proj

end
-- ==== Proof.Proj.RunLast.lean ====
module

public import proofs.«01_k».proof.Proof.Proj.Runs

/-! The stores of one branch of the projection body. -/

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last block: the stores its branch makes, found by running it. -/
def runLast (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x11008 .f32) (harg4 : arg4.IsWhole) (arg5 : Memref sig .tc .vmem S128x2048 .f32) (harg5 : arg5.IsWhole) (arg6 : Memref sig .tc .vmem S2048x512 .bf16) (harg6 : arg6.IsWhole) (arg7 : Memref sig .tc .vmem S64x11008 .bf16) (harg7 : arg7.IsWhole) (arg8 : Memref sig .tc .vmem S128x2048 .bf16) (harg8 : arg8.IsWhole) (arg9 : Memref sig .tc .vmem S2048x512 .bf16) (harg9 : arg9.IsWhole) (h1 : ¬k0_cond1 i = 1#1) (h2 : ¬k0_cond2 i = 1#1) (h3 : k0_cond3 i = 1#1) (x0 : Vec F S2048x2048 .bf16) (x1 : Vec F S2048x512 .f32) (x2 : Vec F S64x11008 .f32) (x3 : Vec F S128x2048 .f32) :
    Σ' (L4 : List (View.Piece (Elt F) S2048x512 .bf16)) (L5 : List (View.Piece (Elt F) S64x11008 .bf16)),
      { L6 : List (View.Piece (Elt F) S128x2048 .bf16) // Runs c i arg2 harg2 arg3 harg3 arg4 harg4 arg5 harg5 arg6 harg6 arg7 harg7 arg8 harg8 arg9 harg9 x0 x1 x2 x3 L4 L5 L6 } := by
  refine ⟨?_, ?_, ?_, fun E K => ?run⟩
  case run =>
    simp only [cc0_proj_eq_skeleton]; unfold cc0_proj_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3
    sl_exec (disch := first | sl_exact h1 | sl_exact h2 | sl_exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS

end Cert.Kernel3Ideal.Proj

end
-- ==== Proof.Proj.Frame.lean ====
module

public import proofs.«01_k».proof.Proof.Proj.RunGate
public import proofs.«01_k».proof.Proof.Proj.RunPlain
public import proofs.«01_k».proof.Proof.Proj.RunLast
public import Idealize.ShloMosaic.Lib.Claim

/-!
The frame of the projection call: the run terminates, the argument arrays end as they began, and every
result array ends as the blocks written back leave it.

The last column block hangs over the end of the result.  Its point stores the left half only, and what
its buffer holds past that is never moved; the contents are therefore stated on the moved part alone.
-/

@[expose] public section

set_option maxRecDepth 16384

noncomputable section

namespace Cert.Kernel3Ideal.Proj

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x11008 .f32) (harg4 : arg4.IsWhole) (arg5 : Memref sig .tc .vmem S128x2048 .f32) (harg5 : arg5.IsWhole) (arg6 : Memref sig .tc .vmem S2048x512 .bf16) (harg6 : arg6.IsWhole) (arg7 : Memref sig .tc .vmem S64x11008 .bf16) (harg7 : arg7.IsWhole) (arg8 : Memref sig .tc .vmem S128x2048 .bf16) (harg8 : arg8.IsWhole) (arg9 : Memref sig .tc .vmem S2048x512 .bf16) (harg9 : arg9.IsWhole) (x0 : Vec F S2048x2048 .bf16) (x1 : Vec F S2048x512 .f32) (x2 : Vec F S64x11008 .f32) (x3 : Vec F S128x2048 .f32)

/-- The stores of a gate block fill the block of the result. -/
theorem coverGate4 (h1 : k0_cond1 i = 1#1) (h2 : ¬k0_cond2 i = 1#1) (h3 : ¬k0_cond3 i = 1#1) (y : S2048x512.Idx) :
    ∃ p ∈ (runGate c i arg2 harg2 arg3 harg3 arg4 harg4 arg5 harg5 arg6 harg6 arg7 harg7 arg8 harg8 arg9 harg9 h1 h2 h3 x0 x1 x2 x3).1, y ∈ p.1.set :=
  View.cover_of_tiledL (runGate c i arg2 harg2 arg3 harg3 arg4 harg4 arg5 harg5 arg6 harg6 arg7 harg7 arg8 harg8 arg9 harg9 h1 h2 h3 x0 x1 x2 x3).1 S256x512.size (by sl_kernel_rfl) y

/-- The stores of a gate block fill the first cast block. -/
theorem coverGate5 (h1 : k0_cond1 i = 1#1) (h2 : ¬k0_cond2 i = 1#1) (h3 : ¬k0_cond3 i = 1#1) (y : S64x11008.Idx) :
    ∃ p ∈ (runGate c i arg2 harg2 arg3 harg3 arg4 harg4 arg5 harg5 arg6 harg6 arg7 harg7 arg8 harg8 arg9 harg9 h1 h2 h3 x0 x1 x2 x3).2.1, y ∈ p.1.set :=
  View.cover_of_tiledL (runGate c i arg2 harg2 arg3 harg3 arg4 harg4 arg5 harg5 arg6 harg6 arg7 harg7 arg8 harg8 arg9 harg9 h1 h2 h3 x0 x1 x2 x3).2.1 S64x11008.size (by sl_kernel_rfl) y

/-- The stores of a gate block fill the second cast block. -/
theorem coverGate6 (h1 : k0_cond1 i = 1#1) (h2 : ¬k0_cond2 i = 1#1) (h3 : ¬k0_cond3 i = 1#1) (y : S128x2048.Idx) :
    ∃ p ∈ (runGate c i arg2 harg2 arg3 harg3 arg4 harg4 arg5 harg5 arg6 harg6 arg7 harg7 arg8 harg8 arg9 harg9 h1 h2 h3 x0 x1 x2 x3).2.2.1, y ∈ p.1.set :=
  View.cover_of_tiledL (runGate c i arg2 harg2 arg3 harg3 arg4 harg4 arg5 harg5 arg6 harg6 arg7 harg7 arg8 harg8 arg9 harg9 h1 h2 h3 x0 x1 x2 x3).2.2.1 S128x2048.size (by sl_kernel_rfl) y

/-- The stores of a plain block fill the block of the result. -/
theorem coverPlain4 (h1 : ¬k0_cond1 i = 1#1) (h2 : k0_cond2 i = 1#1) (h3 : ¬k0_cond3 i = 1#1) (y : S2048x512.Idx) :
    ∃ p ∈ (runPlain c i arg2 harg2 arg3 harg3 arg4 harg4 arg5 harg5 arg6 harg6 arg7 harg7 arg8 harg8 arg9 harg9 h1 h2 h3 x0 x1 x2 x3).1, y ∈ p.1.set :=
  View.cover_of_tiledL (runPlain c i arg2 harg2 arg3 harg3 arg4 harg4 arg5 harg5 arg6 harg6 arg7 harg7 arg8 harg8 arg9 harg9 h1 h2 h3 x0 x1 x2 x3).1 S256x512.size (by sl_kernel_rfl) y

/-- The stores of a plain block fill the first cast block. -/
theorem coverPlain5 (h1 : ¬k0_cond1 i = 1#1) (h2 : k0_cond2 i = 1#1) (h3 : ¬k0_cond3 i = 1#1) (y : S64x11008.Idx) :
    ∃ p ∈ (runPlain c i arg2 harg2 arg3 harg3 arg4 harg4 arg5 harg5 arg6 harg6 arg7 harg7 arg8 harg8 arg9 harg9 h1 h2 h3 x0 x1 x2 x3).2.1, y ∈ p.1.set :=
  View.cover_of_tiledL (runPlain c i arg2 harg2 arg3 harg3 arg4 harg4 arg5 harg5 arg6 harg6 arg7 harg7 arg8 harg8 arg9 harg9 h1 h2 h3 x0 x1 x2 x3).2.1 S64x11008.size (by sl_kernel_rfl) y

/-- The stores of a plain block fill the second cast block. -/
theorem coverPlain6 (h1 : ¬k0_cond1 i = 1#1) (h2 : k0_cond2 i = 1#1) (h3 : ¬k0_cond3 i = 1#1) (y : S128x2048.Idx) :
    ∃ p ∈ (runPlain c i arg2 harg2 arg3 harg3 arg4 harg4 arg5 harg5 arg6 harg6 arg7 harg7 arg8 harg8 arg9 harg9 h1 h2 h3 x0 x1 x2 x3).2.2.1, y ∈ p.1.set :=
  View.cover_of_tiledL (runPlain c i arg2 harg2 arg3 harg3 arg4 harg4 arg5 harg5 arg6 harg6 arg7 harg7 arg8 harg8 arg9 harg9 h1 h2 h3 x0 x1 x2 x3).2.2.1 S128x2048.size (by sl_kernel_rfl) y

/-- The stores of the last block fill the first cast block. -/
theorem coverLast5 (h1 : ¬k0_cond1 i = 1#1) (h2 : ¬k0_cond2 i = 1#1) (h3 : k0_cond3 i = 1#1) (y : S64x11008.Idx) :
    ∃ p ∈ (runLast c i arg2 harg2 arg3 harg3 arg4 harg4 arg5 harg5 arg6 harg6 arg7 harg7 arg8 harg8 arg9 harg9 h1 h2 h3 x0 x1 x2 x3).2.1, y ∈ p.1.set :=
  View.cover_of_tiledL (runLast c i arg2 harg2 arg3 harg3 arg4 harg4 arg5 harg5 arg6 harg6 arg7 harg7 arg8 harg8 arg9 harg9 h1 h2 h3 x0 x1 x2 x3).2.1 S64x11008.size (by sl_kernel_rfl) y

/-- The stores of the last block fill the second cast block. -/
theorem coverLast6 (h1 : ¬k0_cond1 i = 1#1) (h2 : ¬k0_cond2 i = 1#1) (h3 : k0_cond3 i = 1#1) (y : S128x2048.Idx) :
    ∃ p ∈ (runLast c i arg2 harg2 arg3 harg3 arg4 harg4 arg5 harg5 arg6 harg6 arg7 harg7 arg8 harg8 arg9 harg9 h1 h2 h3 x0 x1 x2 x3).2.2.1, y ∈ p.1.set :=
  View.cover_of_tiledL (runLast c i arg2 harg2 arg3 harg3 arg4 harg4 arg5 harg5 arg6 harg6 arg7 harg7 arg8 harg8 arg9 harg9 h1 h2 h3 x0 x1 x2 x3).2.2.1 S128x2048.size (by sl_kernel_rfl) y

/-- The eight chunks of the right half lie in the block. -/
theorem rightHalf_inb (k : Fin 8) (a : Fin S2048x512.rank) :
    (![256 * k.val, 256] : Fin 2 → ℕ) a + S256x256.size a ≤ S2048x512.size a := by
  fin_cases a
  · show 256 * k.val + 256 ≤ 2048; omega
  · show 256 + 256 ≤ 512; omega

/-- Stores of zeros into the right half of the block, used only to count what the last block's stores miss. -/
def rightHalf : List (View.Piece (Elt F) S2048x512 .bf16) :=
  List.ofFn fun k : Fin 8 => ⟨Rect.unit (s := S2048x512) ![256 * k.val, 256] S256x256.size (rightHalf_inb k), constant S256x256 .bf16 0x0000#16⟩

/-- The stores of the last block fill the left half of the block of the result. -/
theorem coverLast4 (h1 : ¬k0_cond1 i = 1#1) (h2 : ¬k0_cond2 i = 1#1) (h3 : k0_cond3 i = 1#1) (y : S2048x512.Idx) (hy : (y 1).val < 256) :
    ∃ p ∈ (runLast c i arg2 harg2 arg3 harg3 arg4 harg4 arg5 harg5 arg6 harg6 arg7 harg7 arg8 harg8 arg9 harg9 h1 h2 h3 x0 x1 x2 x3).1, y ∈ p.1.set := by
  obtain ⟨p, hp, hm⟩ := View.cover_of_tiledL (s := S2048x512) (e := .bf16) ((runLast c i arg2 harg2 arg3 harg3 arg4 harg4 arg5 harg5 arg6 harg6 arg7 harg7 arg8 harg8 arg9 harg9 h1 h2 h3 x0 x1 x2 x3).1 ++ rightHalf)
    S256x256.size (by sl_kernel_rfl) y
  rcases List.mem_append.mp hp with h | h
  · exact ⟨p, h, hm⟩
  · obtain ⟨k, rfl⟩ := (List.mem_ofFn' _ _).mp h
    have hm' : y ∈ (Rect.unit (s := S2048x512) ![256 * k.val, 256] S256x256.size (rightHalf_inb k)).set := hm
    have : 256 ≤ (y 1).val := (Rect.mem_set_unit.mp hm' 1).1
    omega
end

variable (m : (ℓ : Loc nD τ sig) → Buf (Elt F) ℓ) (ρ : Dev nD → PrngReg)

/-! ## The three kinds of points -/

/-- Exactly one branch is taken at every point. -/
theorem branches : ∀ t : Fin cfg0.N,
    (k0_cond1 (grid0.coords t) = 1#1 ∧ ¬k0_cond2 (grid0.coords t) = 1#1 ∧ ¬k0_cond3 (grid0.coords t) = 1#1)
    ∨ (¬k0_cond1 (grid0.coords t) = 1#1 ∧ k0_cond2 (grid0.coords t) = 1#1 ∧ ¬k0_cond3 (grid0.coords t) = 1#1)
    ∨ (¬k0_cond1 (grid0.coords t) = 1#1 ∧ ¬k0_cond2 (grid0.coords t) = 1#1 ∧ k0_cond3 (grid0.coords t) = 1#1) := by
  decide +kernel

/-- The gates are the first eight column blocks. -/
theorem cond1_iff : ∀ t : Fin cfg0.N, k0_cond1 (grid0.coords t) = 1#1 ↔ t.val % 11 < 8 := by decide +kernel
/-- The plain projections are the next two. -/
theorem cond2_iff : ∀ t : Fin cfg0.N, k0_cond2 (grid0.coords t) = 1#1 ↔ 8 ≤ t.val % 11 ∧ t.val % 11 ≤ 9 := by decide +kernel

/-- No point leaves an output block alone. -/
theorem live : ∀ t : Fin cfg0.N, cfg0.idle 4 (grid0.coords t) = false ∧ cfg0.idle 5 (grid0.coords t) = false
    ∧ cfg0.idle 6 (grid0.coords t) = false := by decide +kernel

/-- At a last block the part of the result's block inside the array is its left half. -/
theorem moved_last : ∀ t : Fin cfg0.N, k0_cond3 (grid0.coords t) = 1#1 → win0_4.xsize (grid0.coords t) 1 = 256 := by
  decide +kernel

/-- The stores of the point into the three output blocks. -/
def point (c : Dev nD) (t : Fin cfg0.N) :
    Σ' (L4 : List (View.Piece (Elt F) S2048x512 .bf16)) (L5 : List (View.Piece (Elt F) S64x11008 .bf16)),
      { L6 : List (View.Piece (Elt F) S128x2048 .bf16) //
        Runs c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (iblk m c 0 t) (iblk m c 1 t) (iblk m c 2 t) (iblk m c 3 t) L4 L5 L6 } :=
  if h1 : k0_cond1 (grid0.coords t) = 1#1 then
    runGate c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) h1
      (by rcases branches t with h | h | h <;> tauto) (by rcases branches t with h | h | h <;> tauto) (iblk m c 0 t) (iblk m c 1 t) (iblk m c 2 t) (iblk m c 3 t)
  else if h2 : k0_cond2 (grid0.coords t) = 1#1 then
    runPlain c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) h1 h2
      (by rcases branches t with h | h | h <;> tauto) (iblk m c 0 t) (iblk m c 1 t) (iblk m c 2 t) (iblk m c 3 t)
  else
    runLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) h1 h2
      (by rcases branches t with h | h | h <;> tauto) (iblk m c 0 t) (iblk m c 1 t) (iblk m c 2 t) (iblk m c 3 t)

/-- What a block holds after the stores `L`, where they reach. -/
abbrev left4 (L : List (View.Piece (Elt F) S2048x512 .bf16)) : Vec F S2048x512 .bf16 :=
  (Memref.whole cc0_stg4_0).view.read (Elt F) ((Memref.whole cc0_stg4_0).view.writes (Elt F) (Memref.whole cc0_stg4_0).view.junk L)
@[inherit_doc left4] abbrev left5 (L : List (View.Piece (Elt F) S64x11008 .bf16)) : Vec F S64x11008 .bf16 :=
  (Memref.whole cc0_stg5_0).view.read (Elt F) ((Memref.whole cc0_stg5_0).view.writes (Elt F) (Memref.whole cc0_stg5_0).view.junk L)
@[inherit_doc left4] abbrev left6 (L : List (View.Piece (Elt F) S128x2048 .bf16)) : Vec F S128x2048 .bf16 :=
  (Memref.whole cc0_stg6_0).view.read (Elt F) ((Memref.whole cc0_stg6_0).view.writes (Elt F) (Memref.whole cc0_stg6_0).view.junk L)

/-- On the part that is moved, the stores of the point fill the block of the result. -/
theorem cover4 (c : Dev nD) (t : Fin cfg0.N) (y : S2048x512.Idx) (hy : win0_4.moved (grid0.coords t) y = true) :
    ∃ p ∈ (point m c t).1, y ∈ p.1.set := by
  unfold point
  by_cases h1 : k0_cond1 (grid0.coords t) = 1#1
  · rw [dif_pos h1]
    exact coverGate4 _ _ _ _ _ _ _ _ _ _ _ _ _ _ _ _ _ _ _ _ _ _ _ _ _ y
  · rw [dif_neg h1]
    by_cases h2 : k0_cond2 (grid0.coords t) = 1#1
    · rw [dif_pos h2]
      exact coverPlain4 _ _ _ _ _ _ _ _ _ _ _ _ _ _ _ _ _ _ _ _ _ _ _ _ _ y
    · rw [dif_neg h2]
      refine coverLast4 _ _ _ _ _ _ _ _ _ _ _ _ _ _ _ _ _ _ _ _ _ _ _ _ _ y ?_
      have h := (win0_4.moved_iff _ _).mp hy 1
      rwa [moved_last t (by rcases branches t with h | h | h <;> tauto)] at h

/-- The stores of the point fill the first cast block, -/
theorem cover5 (c : Dev nD) (t : Fin cfg0.N) (y : S64x11008.Idx) : ∃ p ∈ (point m c t).2.1, y ∈ p.1.set := by
  unfold point
  by_cases h1 : k0_cond1 (grid0.coords t) = 1#1
  · rw [dif_pos h1]
    exact coverGate5 _ _ _ _ _ _ _ _ _ _ _ _ _ _ _ _ _ _ _ _ _ _ _ _ _ y
  · rw [dif_neg h1]
    by_cases h2 : k0_cond2 (grid0.coords t) = 1#1
    · rw [dif_pos h2]
      exact coverPlain5 _ _ _ _ _ _ _ _ _ _ _ _ _ _ _ _ _ _ _ _ _ _ _ _ _ y
    · rw [dif_neg h2]
      exact coverLast5 _ _ _ _ _ _ _ _ _ _ _ _ _ _ _ _ _ _ _ _ _ _ _ _ _ y

/-- and the second. -/
theorem cover6 (c : Dev nD) (t : Fin cfg0.N) (y : S128x2048.Idx) : ∃ p ∈ (point m c t).2.2.1, y ∈ p.1.set := by
  unfold point
  by_cases h1 : k0_cond1 (grid0.coords t) = 1#1
  · rw [dif_pos h1]
    exact coverGate6 _ _ _ _ _ _ _ _ _ _ _ _ _ _ _ _ _ _ _ _ _ _ _ _ _ y
  · rw [dif_neg h1]
    by_cases h2 : k0_cond2 (grid0.coords t) = 1#1
    · rw [dif_pos h2]
      exact coverPlain6 _ _ _ _ _ _ _ _ _ _ _ _ _ _ _ _ _ _ _ _ _ _ _ _ _ y
    · rw [dif_neg h2]
      exact coverLast6 _ _ _ _ _ _ _ _ _ _ _ _ _ _ _ _ _ _ _ _ _ _ _ _ _ y

/-! ## The proof data and the body -/

/-- The arrays as launched; after a point the input blocks in place and the output blocks with the point's
stores; nothing said of the scratch, which every point fills before reading it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left4 (point m c t).1
    | ⟨5, _⟩ => left5 (point m c t).2.1
    | ⟨6, _⟩ => left6 (point m c t).2.2.1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = left4 (point m c t).1 := by dsimp only [dats]
theorem after5 (c : Dev nD) (t : Fin cfg0.N) : (dats m 0 c).after 5 t = left5 (point m c t).2.1 := by dsimp only [dats]
theorem after6 (c : Dev nD) (t : Fin cfg0.N) : (dats m 0 c).after 6 t = left6 (point m c t).2.2.1 := by dsimp only [dats]

/-- The invariant of the launch: the scratch at anything and the random state at anything. -/
theorem launchInv_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The body at a point, from the blocks as the pipeline hands them over to the blocks as it takes them back. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := F)) Variants.none c none) Set.univ (bodyAt0 t) fun _ =>
          iprop((dats m 0 c).Φ t.succ ∗ (dats m 0 c).owesAt () t.succ
            ∗ (dats m 0 c).leaves 0 t ∗ (dats m 0 c).leaves 1 t ∗ (dats m 0 c).leaves 2 t ∗ (dats m 0 c).leaves 3 t
            ∗ (dats m 0 c).leaves 4 t ∗ (dats m 0 c).leaves 5 t ∗ (dats m 0 c).leaves 6 t) := by
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, launchInv_eq]
  rw [show (dats m 0 c).leaves 0 t = owns (c : Thread nD τ) (st0_0 t) fullShare (iblk m c 0 t) from by
      unfold Dat.leaves; rw [show cfg0.idle 0 (cfg0.grid.coords t) = false from rfl, after0],
    show (dats m 0 c).leaves 1 t = owns (c : Thread nD τ) (st0_1 t) fullShare (iblk m c 1 t) from by
      unfold Dat.leaves; rw [show cfg0.idle 1 (cfg0.grid.coords t) = false from rfl, after1],
    show (dats m 0 c).leaves 2 t = owns (c : Thread nD τ) (st0_2 t) fullShare (iblk m c 2 t) from by
      unfold Dat.leaves; rw [show cfg0.idle 2 (cfg0.grid.coords t) = false from rfl, after2],
    show (dats m 0 c).leaves 3 t = owns (c : Thread nD τ) (st0_3 t) fullShare (iblk m c 3 t) from by
      unfold Dat.leaves; rw [show cfg0.idle 3 (cfg0.grid.coords t) = false from rfl, after3],
    show (dats m 0 c).leaves 4 t = iprop(∃ d, owns (c : Thread nD τ) (st0_4 t) fullShare
        (win0_4.fill (grid0.coords t) d (win0_4.cut (grid0.coords t) (left4 (point m c t).1)))) from by
      unfold Dat.leaves; rw [show cfg0.idle 4 (cfg0.grid.coords t) = false from (live t).1, after4],
    show (dats m 0 c).leaves 5 t = owns (c : Thread nD τ) (st0_5 t) fullShare (left5 (point m c t).2.1) from by
      unfold Dat.leaves; rw [show cfg0.idle 5 (cfg0.grid.coords t) = false from (live t).2.1, after5],
    show (dats m 0 c).leaves 6 t = owns (c : Thread nD τ) (st0_6 t) fullShare (left6 (point m c t).2.2.1) from by
      unfold Dat.leaves; rw [show cfg0.idle 6 (cfg0.grid.coords t) = false from (live t).2.2, after6]]
  simp only [before0_0_of m (dats m 0 c) (A_eq m c 0) (after0 m c) t, before0_1_of m (dats m 0 c) (A_eq m c 1) (after1 m c) t,
    before0_2_of m (dats m 0 c) (A_eq m c 2) (after2 m c) t, before0_3_of m (dats m 0 c) (A_eq m c 3) (after3 m c) t]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
  iapply ((point m c t).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS]; · iexists _; iexact HS
  iintro ⟨H0, H1, H2, H3, ⟨%e4, H4⟩, ⟨%e5, H5⟩, ⟨%e6, H6⟩, ⟨%fs, HS⟩⟩
  isplitl [HS Hg]
  · isplitl [HS]
    · unfold owns
      iexists (Memref.whole cc0_scratch0).view.read (Elt F) fs, fs
      isplitr
      · ipureintro; rfl
      iexact HS
    iexact Hg
  isplitl [Ho]; · iexact Ho
  isplitl [H0]; · iexact H0
  isplitl [H1]; · iexact H1
  isplitl [H2]; · iexact H2
  isplitl [H3]; · iexact H3
  isplitl [H4]
  · unfold owns
    iexists (st0_4 t).view.read (Elt F) ((st0_4 t).view.writes (Elt F) e4 (point m c t).1), _
    isplitr
    swap; · iexact H4
    ipureintro
    funext j
    unfold Pipeline.Window.fill
    split
    · rename_i h
      exact View.read_writes_apply_eq _ _ _ _ _ _ (cover4 m c t j h)
    · rfl
  isplitl [H5]
  · unfold owns; iexists _; isplitr
    swap; · iexact H5
    ipureintro; exact View.read_writes_of_cover _ _ _ _ _ (cover5 m c t)
  unfold owns; iexists _; isplitr
  swap; · iexact H6
  ipureintro; exact View.read_writes_of_cover _ _ _ _ _ (cover6 m c t)

/-- The body table's row at a point is the body at that point. -/
theorem row_eq (t : Fin cfg0.N) :
    defs₀ (F := F) .tc cfg0.body (cfg0.bodyArgs t (cfg0.slots t)) = bodyAt0 t := by
  unfold defs₀; rw [Defs.onTc_tc]

/-- The obligation of the pipeline's rule. -/
theorem body_obligation (c : Dev nD) :
    Pipeline.BodyObligationLoose (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
/-- Every run terminates with the arrays as the write-backs leave them and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m)
    (hin := fun _ => .rfl) (hout := fun _ => .rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel3Ideal.Proj

end
-- ==== Proof.Proj.Spec.lean ====
/- The projection on one row and column, and what the kernel's stores of each kind of block hold in these terms. -/
module

public import proofs.«01_k».proof.Proof.Proj.Frame
public import proofs.«01_k».proof.Proof.Ffn.Equation
public import Idealize.ShloMosaic.Lib.Pointwise
public import Idealize.ShloMosaic.Lib.Pipeline.ValueKit

@[expose] public section

set_option maxRecDepth 16384

noncomputable section

namespace Cert.Proj

open Idealize.ShloMosaic Cert.Ffn

/-- A row against a column. -/
def dot (h w : Fin 2048 → EReal) : EReal := ∑ k, h k * w k

/-- The logistic gate. -/
def gate (s : EReal) : EReal := Ideal.div 1 (1 + Ideal.exp (-s))

/-- The gate as the kernel computes it, from the hyperbolic tangent of half the argument. -/
def gateK (s : EReal) : EReal := half (Ideal.tanh (half s)) + Ideal.ofBits .f32 0x3F000000#32

theorem half_tanh' (r : ℝ) : 1 / 2 * Real.tanh (1 / 2 * r) + 1 / 2 = (1 + Real.exp (-r))⁻¹ := by
  rcases eq_or_ne r 0 with rfl | h
  · norm_num
  · have := half_tanh r
    have h2 : r * (1 / 2 * Real.tanh (1 / 2 * r) + 1 / 2) = r * (1 + Real.exp (-r))⁻¹ := by rw [← this]; ring
    exact mul_left_cancel₀ h h2

/-- The two forms of the gate agree at every argument, the infinite ones included. -/
theorem gateK_eq (s : EReal) : gateK s = gate s := by
  unfold gateK gate half
  rw [bits_half]
  induction s with
  | bot =>
    rw [EReal.coe_mul_bot_of_pos (by norm_num)]
    show ((1 / 2 : ℝ) : EReal) * (-1) + _ = Ideal.div 1 (1 + Ideal.exp (-⊥))
    rw [EReal.neg_bot]
    show _ = Ideal.div 1 (1 + ⊤)
    rw [EReal.add_top_of_ne_bot (by decide)]
    unfold Ideal.div
    rw [if_neg (by decide), EReal.inv_top, mul_zero, show (-1 : EReal) = ((-1 : ℝ) : EReal) from rfl, ← EReal.coe_mul, ← EReal.coe_add]
    norm_num
  | top =>
    rw [EReal.coe_mul_top_of_pos (by norm_num)]
    show ((1 / 2 : ℝ) : EReal) * 1 + _ = Ideal.div 1 (1 + Ideal.exp (-⊤))
    rw [EReal.neg_top]
    show _ = Ideal.div 1 (1 + 0)
    unfold Ideal.div
    rw [add_zero, if_neg (by norm_num), mul_one, ← EReal.coe_add, one_mul, show (1 : EReal) = ((1 : ℝ) : EReal) from rfl, ← EReal.coe_inv]
    norm_num
  | coe r =>
    rw [← EReal.coe_mul, Ideal.tanh_coe, ← EReal.coe_mul, ← EReal.coe_add, half_tanh', ← Ideal.logistic_coe]
    rfl

/-- Any part of a buffer that one store filled. -/
theorem readCov_of_full {sig : RefSig} {κ : Kind} {sp : Space} {S : Shape} {e : EltTy} (v : View sig κ sp S e) {off : Fin S.rank → ℕ}
    (h : off = fun _ => 0) (inb : ∀ a, off a + S.size a ≤ S.size a) (w : Vec Ideal S e) (r : Rect S) :
    v.readCov [(⟨Rect.unit off S.size inb, w⟩ : View.Piece (Elt Ideal) S e)] r.toLoadRect = View.ld w r := by
  rw [View.readCov_eq_canon_ld v _ r fun y => ⟨_, List.mem_singleton_self _, View.mem_set_unit_zero h inb y⟩,
    View.canon_unit_zero h]

end Cert.Proj

namespace Cert.Kernel3Ideal.Proj

open Cert.Kernel3Ideal.Gen Cert.Proj Cert.Ffn
open Idealize.ShloMosaic Idealize.ShloMosaic.TcCoe

/-! ## The stored values -/

section
variable (v : Vec Ideal S256x2048 .bf16) (w : Vec Ideal S2048x512 .bf16) (r : Fin 256) (q : Fin 512)

theorem pay2_apply : k0_pay2 v w (ix2 r q) = gate (dot (fun k => v (ix2 r k)) (fun k => w (ix2 k q))) := by
  rw [← gateK_eq]
  unfold gateK half dot
  pointwise [k0_pay2]

theorem pay8_eq : @k0_pay8 Ideal _ = k0_pay2 := rfl
theorem pay11_eq : @k0_pay11 Ideal _ = k0_pay2 := rfl
theorem pay12_eq : @k0_pay12 Ideal _ = k0_pay2 := rfl
theorem pay13_eq : @k0_pay13 Ideal _ = k0_pay2 := rfl
theorem pay14_eq : @k0_pay14 Ideal _ = k0_pay2 := rfl
theorem pay10_eq : k0_pay10 (k0_pay9 v w) = k0_pay2 v w := rfl
theorem pay1_eq : k0_pay1 (k0_pay15 v w) (Scalar.ofBits .f32 0x3F000000#32) = k0_pay2 v w := rfl

theorem pay3_apply : k0_pay3 v w (ix2 r q) = dot (fun k => v (ix2 r k)) (fun k => w (ix2 k q)) := by
  unfold dot
  pointwise [k0_pay3]

theorem pay19_eq : @k0_pay19 Ideal _ = k0_pay3 := rfl
theorem pay20_eq : @k0_pay20 Ideal _ = k0_pay3 := rfl
theorem pay23_eq : @k0_pay23 Ideal _ = k0_pay3 := rfl
theorem pay24_eq : @k0_pay24 Ideal _ = k0_pay3 := rfl
theorem pay25_eq : @k0_pay25 Ideal _ = k0_pay3 := rfl
theorem pay26_eq : @k0_pay26 Ideal _ = k0_pay3 := rfl
theorem pay22_eq : k0_pay22 (k0_pay21 v w) = k0_pay3 v w := rfl

end

section
variable (v : Vec Ideal S256x2048 .bf16) (w : Vec Ideal S2048x256 .bf16) (r q : Fin 256)

theorem pay4_apply : k0_pay4 v w (ix2 r q) = dot (fun k => v (ix2 r k)) (fun k => w (ix2 k q)) := by
  unfold dot
  pointwise [k0_pay4]

theorem pay30_eq : @k0_pay30 Ideal _ = k0_pay4 := rfl
theorem pay31_eq : @k0_pay31 Ideal _ = k0_pay4 := rfl
theorem pay34_eq : @k0_pay34 Ideal _ = k0_pay4 := rfl
theorem pay35_eq : @k0_pay35 Ideal _ = k0_pay4 := rfl
theorem pay36_eq : @k0_pay36 Ideal _ = k0_pay4 := rfl
theorem pay37_eq : @k0_pay37 Ideal _ = k0_pay4 := rfl
theorem pay33_eq : k0_pay33 (k0_pay32 v w) = k0_pay4 v w := rfl

end

/-- A cast changes no value. -/
theorem pay5_eq (w : Vec Ideal S2048x512 .f32) : k0_pay5 w = w := by
  funext y
  pointwise [k0_pay5]
theorem pay16_eq : @k0_pay16 Ideal _ = k0_pay5 := rfl
theorem pay27_eq : @k0_pay27 Ideal _ = k0_pay5 := rfl
theorem pay6_eq (x : Vec Ideal S64x11008 .f32) : k0_pay6 x = x := rfl
theorem pay17_eq (x : Vec Ideal S64x11008 .f32) : k0_pay17 x = x := rfl
theorem pay28_eq (x : Vec Ideal S64x11008 .f32) : k0_pay28 x = x := rfl
theorem pay7_eq (x : Vec Ideal S128x2048 .f32) : k0_pay7 x = x := rfl
theorem pay18_eq (x : Vec Ideal S128x2048 .f32) : k0_pay18 x = x := rfl
theorem pay29_eq (x : Vec Ideal S128x2048 .f32) : k0_pay29 x = x := rfl

/-! ## The stores of a point -/

section
variable (x0 : Vec Ideal S2048x2048 .bf16) (x1 : Vec Ideal S2048x512 .f32)

/-- A block of plain projections. -/
def dots : Vec Ideal S2048x512 .bf16 := fun y => dot (fun k => x0 (ix2 (y 0 : Fin 2048) k)) (fun k => x1 (ix2 k (y 1 : Fin 512)))

/-- A block of gates. -/
def gates : Vec Ideal S2048x512 .bf16 := fun y => gate (dots x0 x1 y)

/-- The rows a chunk of 256 rows starting at row `o` loads. -/
theorem ld_rows (o : ℕ) (inb : ∀ a, ![o, 0] a + ![256, 2048] a ≤ S2048x2048.size a) (r : Fin 256) (R : Fin 2048)
    (hR : R.val = o + r.val) (k : Fin 2048) :
    View.ld x0 (Rect.unit (s := S2048x2048) ![o, 0] ![256, 2048] inb) (ix2 r k) = x0 (ix2 R k) :=
  View.ld_unit_apply_of x0 _ _ inb _ _ fun a => by
    match a with
    | ⟨0, _⟩ => exact hR
    | ⟨1, _⟩ => exact (Nat.zero_add _).symm

/-- The left half of the columns. -/
theorem ld_left (inb : ∀ a, ![0, 0] a + ![2048, 256] a ≤ S2048x512.size a) (k : Fin 2048) (q : Fin 256) :
    View.ld x1 (Rect.unit (s := S2048x512) ![0, 0] ![2048, 256] inb) (ix2 k q) = x1 (ix2 k ⟨q.val, by omega⟩) :=
  View.ld_unit_apply_of x1 _ _ inb _ _ fun a => by
    match a with
    | ⟨0, _⟩ => exact (Nat.zero_add _).symm
    | ⟨1, _⟩ => exact (Nat.zero_add _).symm

/-- The left half of the columns of the filled scratch. -/
theorem readCov_left {κ : Kind} {sp : Space} (v : View sig κ sp S2048x512 .bf16) (w : Vec Ideal S2048x512 .bf16)
    (inb : ∀ a, (![0, 0] : Fin 2 → ℕ) a + S2048x512.size a ≤ S2048x512.size a)
    (inb' : ∀ a, (![0, 0] : Fin 2 → ℕ) a + S2048x256.size a ≤ S2048x512.size a) :
    v.readCov [(⟨Rect.unit (s := S2048x512) ![0, 0] S2048x512.size inb, w⟩ : View.Piece (Elt Ideal) S2048x512 .bf16)]
        (Rect.unit (s := S2048x512) ![0, 0] S2048x256.size inb').toLoadRect
      = View.ld w (Rect.unit (s := S2048x512) ![0, 0] S2048x256.size inb') :=
  readCov_of_full v (by decide) inb w _

theorem dot_chunk (o : ℕ) (inb : ∀ a, ![o, 0] a + ![256, 2048] a ≤ S2048x2048.size a)
    (inb' : ∀ a, ![o, 0] a + ![256, 512] a ≤ S2048x512.size a)
    (x : (Rect.unit (s := S2048x512) ![o, 0] ![256, 512] inb').shape.Idx) :
    k0_pay3 (View.ld x0 (Rect.unit (s := S2048x2048) ![o, 0] ![256, 2048] inb)) (k0_pay5 x1) x
      = dots x0 x1 ((Rect.unit (s := S2048x512) ![o, 0] ![256, 512] inb').emb x) := by
  obtain ⟨r, q, rfl⟩ : ∃ (r : Fin 256) (q : Fin 512), x = ix2 r q := ⟨x 0, x 1, eq_ix2 x⟩
  rw [pay3_apply, pay5_eq]
  refine congrArg₂ dot (funext fun k => ?_) (funext fun k => congrArg x1 ?_)
  · exact ld_rows x0 o inb r _ (by blk_simp) k
  · refine congrArg (ix2 k) (Fin.ext ?_)
    blk_simp

theorem gate_chunk (o : ℕ) (inb : ∀ a, ![o, 0] a + ![256, 2048] a ≤ S2048x2048.size a)
    (inb' : ∀ a, ![o, 0] a + ![256, 512] a ≤ S2048x512.size a)
    (x : (Rect.unit (s := S2048x512) ![o, 0] ![256, 512] inb').shape.Idx) :
    k0_pay2 (View.ld x0 (Rect.unit (s := S2048x2048) ![o, 0] ![256, 2048] inb)) (k0_pay5 x1) x
      = gates x0 x1 ((Rect.unit (s := S2048x512) ![o, 0] ![256, 512] inb').emb x) := by
  unfold gates
  rw [← dot_chunk x0 x1 o inb inb' x]
  obtain ⟨r, q, rfl⟩ : ∃ (r : Fin 256) (q : Fin 512), x = ix2 r q := ⟨x 0, x 1, eq_ix2 x⟩
  rw [pay2_apply, pay3_apply]

theorem left_chunk (o : ℕ) (inb : ∀ a, ![o, 0] a + ![256, 2048] a ≤ S2048x2048.size a)
    (inb' : ∀ a, ![o, 0] a + ![256, 256] a ≤ S2048x512.size a) (inb'' : ∀ a, ![0, 0] a + ![2048, 256] a ≤ S2048x512.size a)
    (x : (Rect.unit (s := S2048x512) ![o, 0] ![256, 256] inb').shape.Idx) :
    k0_pay4 (View.ld x0 (Rect.unit (s := S2048x2048) ![o, 0] ![256, 2048] inb))
        (View.ld (k0_pay5 x1) (Rect.unit (s := S2048x512) ![0, 0] ![2048, 256] inb'')) x
      = dots x0 x1 ((Rect.unit (s := S2048x512) ![o, 0] ![256, 256] inb').emb x) := by
  obtain ⟨r, q, rfl⟩ : ∃ (r q : Fin 256), x = ix2 r q := ⟨x 0, x 1, eq_ix2 x⟩
  rw [pay4_apply, pay5_eq]
  refine congrArg₂ dot (funext fun k => ?_) (funext fun k => (ld_left x1 inb'' k q).trans (congrArg x1 ?_))
  · exact ld_rows x0 o inb r _ (by blk_simp) k
  · refine congrArg (ix2 k) (Fin.ext ?_)
    blk_simp

end

section
variable (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x11008 .f32) (harg4 : arg4.IsWhole) (arg5 : Memref sig .tc .vmem S128x2048 .f32) (harg5 : arg5.IsWhole) (arg6 : Memref sig .tc .vmem S2048x512 .bf16) (harg6 : arg6.IsWhole) (arg7 : Memref sig .tc .vmem S64x11008 .bf16) (harg7 : arg7.IsWhole) (arg8 : Memref sig .tc .vmem S128x2048 .bf16) (harg8 : arg8.IsWhole) (arg9 : Memref sig .tc .vmem S2048x512 .bf16) (harg9 : arg9.IsWhole) (x0 : Vec Ideal S2048x2048 .bf16) (x1 : Vec Ideal S2048x512 .f32) (x2 : Vec Ideal S64x11008 .f32) (x3 : Vec Ideal S128x2048 .f32)

theorem piecesGate (h1 : k0_cond1 i = 1#1) (h2 : ¬k0_cond2 i = 1#1) (h3 : ¬k0_cond3 i = 1#1) : ∀ p ∈ (runGate c i arg2 harg2 arg3 harg3 arg4 harg4 arg5 harg5 arg6 harg6 arg7 harg7 arg8 harg8 arg9 harg9 h1 h2 h3 x0 x1 x2 x3).1,
    ∀ x : p.1.shape.Idx, p.2 x = gates x0 x1 (p.1.emb x) := by
  frame_out [List.forall_mem_cons, pay8_eq, pay11_eq, pay12_eq, pay13_eq, pay14_eq, pay10_eq, pay1_eq]
  refine ⟨fun x => ?_, fun x => ?_, fun x => ?_, fun x => ?_, fun x => ?_, fun x => ?_, fun x => ?_, fun x => ?_, fun _ h => absurd h List.not_mem_nil⟩
  all_goals exact gate_chunk x0 x1 _ _ _ x

theorem castsGate (h1 : k0_cond1 i = 1#1) (h2 : ¬k0_cond2 i = 1#1) (h3 : ¬k0_cond3 i = 1#1) :
    left5 (runGate c i arg2 harg2 arg3 harg3 arg4 harg4 arg5 harg5 arg6 harg6 arg7 harg7 arg8 harg8 arg9 harg9 h1 h2 h3 x0 x1 x2 x3).2.1 = x2
      ∧ left6 (runGate c i arg2 harg2 arg3 harg3 arg4 harg4 arg5 harg5 arg6 harg6 arg7 harg7 arg8 harg8 arg9 harg9 h1 h2 h3 x0 x1 x2 x3).2.2.1 = x3 := by
  constructor <;> frame_out <;> exact View.canon_cons_unit_lit' _ _ _ (by decide)

theorem piecesPlain (h1 : ¬k0_cond1 i = 1#1) (h2 : k0_cond2 i = 1#1) (h3 : ¬k0_cond3 i = 1#1) : ∀ p ∈ (runPlain c i arg2 harg2 arg3 harg3 arg4 harg4 arg5 harg5 arg6 harg6 arg7 harg7 arg8 harg8 arg9 harg9 h1 h2 h3 x0 x1 x2 x3).1,
    ∀ x : p.1.shape.Idx, p.2 x = dots x0 x1 (p.1.emb x) := by
  frame_out [List.forall_mem_cons, pay16_eq, pay19_eq, pay20_eq, pay23_eq, pay24_eq, pay25_eq, pay26_eq, pay22_eq]
  refine ⟨fun x => ?_, fun x => ?_, fun x => ?_, fun x => ?_, fun x => ?_, fun x => ?_, fun x => ?_, fun x => ?_, fun _ h => absurd h List.not_mem_nil⟩
  all_goals exact dot_chunk x0 x1 _ _ _ x

theorem castsPlain (h1 : ¬k0_cond1 i = 1#1) (h2 : k0_cond2 i = 1#1) (h3 : ¬k0_cond3 i = 1#1) :
    left5 (runPlain c i arg2 harg2 arg3 harg3 arg4 harg4 arg5 harg5 arg6 harg6 arg7 harg7 arg8 harg8 arg9 harg9 h1 h2 h3 x0 x1 x2 x3).2.1 = x2
      ∧ left6 (runPlain c i arg2 harg2 arg3 harg3 arg4 harg4 arg5 harg5 arg6 harg6 arg7 harg7 arg8 harg8 arg9 harg9 h1 h2 h3 x0 x1 x2 x3).2.2.1 = x3 := by
  constructor <;> frame_out <;> exact View.canon_cons_unit_lit' _ _ _ (by decide)

theorem piecesLast (h1 : ¬k0_cond1 i = 1#1) (h2 : ¬k0_cond2 i = 1#1) (h3 : k0_cond3 i = 1#1) : ∀ p ∈ (runLast c i arg2 harg2 arg3 harg3 arg4 harg4 arg5 harg5 arg6 harg6 arg7 harg7 arg8 harg8 arg9 harg9 h1 h2 h3 x0 x1 x2 x3).1,
    ∀ x : p.1.shape.Idx, p.2 x = dots x0 x1 (p.1.emb x) := by
  frame_out [List.forall_mem_cons, pay27_eq, pay30_eq, pay31_eq, pay34_eq, pay35_eq, pay36_eq, pay37_eq, pay33_eq]
  refine ⟨fun x => ?_, fun x => ?_, fun x => ?_, fun x => ?_, fun x => ?_, fun x => ?_, fun x => ?_, fun x => ?_, fun _ h => absurd h List.not_mem_nil⟩
  all_goals exact (congrFun (congrArg (k0_pay4 _) (readCov_left _ _ _ _)) x).trans (left_chunk x0 x1 _ _ _ _ x)

theorem castsLast (h1 : ¬k0_cond1 i = 1#1) (h2 : ¬k0_cond2 i = 1#1) (h3 : k0_cond3 i = 1#1) :
    left5 (runLast c i arg2 harg2 arg3 harg3 arg4 harg4 arg5 harg5 arg6 harg6 arg7 harg7 arg8 harg8 arg9 harg9 h1 h2 h3 x0 x1 x2 x3).2.1 = x2
      ∧ left6 (runLast c i arg2 harg2 arg3 harg3 arg4 harg4 arg5 harg5 arg6 harg6 arg7 harg7 arg8 harg8 arg9 harg9 h1 h2 h3 x0 x1 x2 x3).2.2.1 = x3 := by
  constructor <;> frame_out <;> exact View.canon_cons_unit_lit' _ _ _ (by decide)

end

end Cert.Kernel3Ideal.Proj
-- ==== Proof.Proj.Array.lean ====
/- The arrays the projection call leaves. -/
module

public import proofs.«01_k».proof.Proof.Proj.Spec

@[expose] public section

set_option maxRecDepth 16384

noncomputable section

namespace Cert.Proj

open Idealize.ShloMosaic

/-- The column of the input weights that column `p` of the result projects on. -/
def colOf (p : Fin 5376) : Fin 8704 :=
  ⟨if p.val < 4096 then 4608 + p.val else if p.val < 5120 then p.val - 3072 else p.val - 1024, by
    have := p.isLt; split_ifs <;> omega⟩

/-- The projection of a row on column `p` of the result: a gate in the first 4096 columns, plain after. -/
def proj (h : Fin 2048 → EReal) (W : Fin 2048 → Fin 8704 → EReal) (p : Fin 5376) : EReal :=
  if p.val < 4096 then gate (dot h fun k => W k (colOf p)) else dot h fun k => W k (colOf p)

/-- The block of the input weights' columns that column block `j` of the result projects on. -/
def srcOf (j : ℕ) : ℕ := if j < 8 then 9 + j else if j < 10 then j - 6 else 8

end Cert.Proj

namespace Cert.Kernel3Ideal.Proj

open Cert.Kernel3Ideal Cert.Kernel3Ideal.Gen Cert.Proj Idealize.ShloMosaic Idealize.ShloMosaic.TcCoe Idealize.SL.Sem
open Idealize.ShloMosaic.Pipeline (Window)

variable (m : (ℓ : Loc nD τ sig) → Buf (Elt Ideal) ℓ) (c : Dev nD)

/-- Where the windows lie at each step. -/
theorem index_facts : ∀ t : Fin cfg0.N,
    win0_0.index t = ![t.val / 11, 0] ∧ win0_1.index t = ![0, srcOf (t.val % 11)] ∧ win0_2.index t = ![min t.val 31, 0]
      ∧ win0_3.index t = ![min t.val 42, 0] ∧ win0_4.index t = ![t.val / 11, t.val % 11] ∧ win0_5.index t = ![min t.val 31, 0]
      ∧ win0_6.index t = ![min t.val 42, 0] :=
  (by decide +kernel : ∀ t : Fin grid0.N, _)

theorem t_lt (t : Fin cfg0.N) : t.val < 44 := lt_of_lt_of_eq t.isLt (show cfg0.N = 44 from N_0)

theorem srcOf_lt (t : ℕ) : srcOf (t % 11) < 17 := by unfold srcOf; split_ifs <;> omega

theorem iblk0_apply (t : Fin cfg0.N) (R k : Fin 2048) :
    iblk m c 0 t (ix2 R k) = m ((c : Thread nD τ).loc main_arg0) (ix2 ⟨2048 * (t.val / 11) + R.val, by have := t_lt t; omega⟩ k) := by
  blk_ext [iblk, V, (index_facts t).1]
theorem iblk1_apply (t : Fin cfg0.N) (k : Fin 2048) (n : Fin 512) :
    iblk m c 1 t (ix2 k n)
      = m ((c : Thread nD τ).loc main_arg1) (ix2 k ⟨512 * srcOf (t.val % 11) + n.val, by have := srcOf_lt t.val; omega⟩) := by
  blk_ext [iblk, V, (index_facts t).2.1]
theorem iblk2_apply (t : Fin cfg0.N) (R : Fin 64) (k : Fin 11008) :
    iblk m c 2 t (ix2 R k) = m ((c : Thread nD τ).loc main_arg2) (ix2 ⟨64 * min t.val 31 + R.val, by omega⟩ k) := by
  blk_ext [iblk, V, (index_facts t).2.2.1]
theorem iblk3_apply (t : Fin cfg0.N) (R : Fin 128) (k : Fin 2048) :
    iblk m c 3 t (ix2 R k) = m ((c : Thread nD τ).loc main_arg3) (ix2 ⟨128 * min t.val 42 + R.val, by omega⟩ k) := by
  blk_ext [iblk, V, (index_facts t).2.2.2.1]

/-- What the point leaves in the part of its block of the result that is moved, -/
theorem left4_apply (t : Fin cfg0.N) (y : S2048x512.Idx) (hy : win0_4.moved (grid0.coords t) y = true) :
    left4 (point m c t).1 y
      = if t.val % 11 < 8 then gates (iblk m c 0 t) (iblk m c 1 t) y else dots (iblk m c 0 t) (iblk m c 1 t) y := by
  have hc := cover4 m c t y hy
  refine View.read_writes_apply_of_pieces _ _ (fun y => if t.val % 11 < 8 then gates (iblk m c 0 t) (iblk m c 1 t) y
    else dots (iblk m c 0 t) (iblk m c 1 t) y) _ ?_ y hc
  unfold point
  by_cases h1 : k0_cond1 (grid0.coords t) = 1#1
  · rw [dif_pos h1]
    simp only [if_pos ((cond1_iff t).mp h1)]
    exact piecesGate _ _ _ _ _ _ _ _ _ _ _ _ _ _ _ _ _ _ _ _ _ _ _ _ _
  · rw [dif_neg h1]
    simp only [if_neg (fun h => h1 ((cond1_iff t).mpr h))]
    by_cases h2 : k0_cond2 (grid0.coords t) = 1#1
    · rw [dif_pos h2]
      exact piecesPlain _ _ _ _ _ _ _ _ _ _ _ _ _ _ _ _ _ _ _ _ _ _ _ _ _
    · rw [dif_neg h2]
      exact piecesLast _ _ _ _ _ _ _ _ _ _ _ _ _ _ _ _ _ _ _ _ _ _ _ _ _

/-- and in the two blocks of casts. -/
theorem left56_eq (t : Fin cfg0.N) : left5 (point m c t).2.1 = iblk m c 2 t ∧ left6 (point m c t).2.2.1 = iblk m c 3 t := by
  unfold point
  by_cases h1 : k0_cond1 (grid0.coords t) = 1#1
  · rw [dif_pos h1]
    exact castsGate _ _ _ _ _ _ _ _ _ _ _ _ _ _ _ _ _ _ _ _ _ _ _ _ _
  · rw [dif_neg h1]
    by_cases h2 : k0_cond2 (grid0.coords t) = 1#1
    · rw [dif_pos h2]
      exact castsPlain _ _ _ _ _ _ _ _ _ _ _ _ _ _ _ _ _ _ _ _ _ _ _ _ _
    · rw [dif_neg h2]
      exact castsLast _ _ _ _ _ _ _ _ _ _ _ _ _ _ _ _ _ _ _ _ _ _ _ _ _

/-- What the result array ends holding. -/
def result : Buf (Elt Ideal) ((c : Thread nD τ).loc main_v0_0) := fun j =>
  proj (fun k => m ((c : Thread nD τ).loc main_arg0) (ix2 (j 0 : Fin 8192) k))
    (fun k p => m ((c : Thread nD τ).loc main_arg1) (ix2 k p)) (j 1 : Fin 5376)

/-- The two cast arrays end holding the weights, -/
theorem array_eq5 : (dats m 0 c).arrAt 5 cfg0.N = (m ((c : Thread nD τ).loc main_arg2) : Vec Ideal S2048x11008 .f32) := by
  refine (dats m 0 c).arrAt_eq_of_covers 5 _ (by decide +kernel) fun t hf y => ?_
  blk_simp
  rw [after5, (left56_eq m c t).1]
  obtain ⟨R, n, rfl⟩ : ∃ (R : Fin 64) (n : Fin 11008), y = ix2 R n := ⟨y 0, y 1, eq_ix2 y⟩
  refine (iblk2_apply m c t R n).trans (congrArg (m ((c : Thread nD τ).loc main_arg2)) ?_)
  funext a
  apply Fin.ext
  match a with
  | ⟨0, _⟩ =>
    show 64 * min t.val 31 + R.val = _
    blk_simp [(index_facts t).2.2.2.2.2.1]
    omega
  | ⟨1, _⟩ =>
    show n.val = _
    blk_simp [(index_facts t).2.2.2.2.2.1]

theorem array_eq6 : (dats m 0 c).arrAt 6 cfg0.N = (m ((c : Thread nD τ).loc main_arg3) : Vec Ideal S5504x2048 .f32) := by
  refine (dats m 0 c).arrAt_eq_of_covers 6 _ (by decide +kernel) fun t hf y => ?_
  blk_simp
  rw [after6, (left56_eq m c t).2]
  obtain ⟨R, n, rfl⟩ : ∃ (R : Fin 128) (n : Fin 2048), y = ix2 R n := ⟨y 0, y 1, eq_ix2 y⟩
  refine (iblk3_apply m c t R n).trans (congrArg (m ((c : Thread nD τ).loc main_arg3)) ?_)
  funext a
  apply Fin.ext
  match a with
  | ⟨0, _⟩ =>
    show 128 * min t.val 42 + R.val = _
    blk_simp [(index_facts t).2.2.2.2.2.2]
    omega
  | ⟨1, _⟩ =>
    show n.val = _
    blk_simp [(index_facts t).2.2.2.2.2.2]

/-- The blocks of the row and of the weights' columns, against the columns the result's columns project on. -/
theorem point_proj (t : Fin cfg0.N) (R : Fin 2048) (n : Fin 512) (J0 : Fin 8192) (J1 : Fin 5376)
    (h0 : J0.val = 2048 * (t.val / 11) + R.val) (h1 : J1.val = 512 * (t.val % 11) + n.val) :
    (if t.val % 11 < 8 then gates (iblk m c 0 t) (iblk m c 1 t) (ix2 R n) else dots (iblk m c 0 t) (iblk m c 1 t) (ix2 R n))
      = result m c (ix2 J0 J1) := by
  have hd : dots (iblk m c 0 t) (iblk m c 1 t) (ix2 R n)
      = dot (fun k => m ((c : Thread nD τ).loc main_arg0) (ix2 J0 k)) (fun k => m ((c : Thread nD τ).loc main_arg1) (ix2 k (colOf J1))) := by
    refine congrArg₂ dot (funext fun k => ?_) (funext fun k => ?_)
    · refine (iblk0_apply m c t R k).trans (congrArg (fun r => m ((c : Thread nD τ).loc main_arg0) (ix2 r k)) (Fin.ext h0.symm))
    · refine (iblk1_apply m c t k n).trans (congrArg (fun r => m ((c : Thread nD τ).loc main_arg1) (ix2 k r)) (Fin.ext ?_))
      show 512 * srcOf (t.val % 11) + n.val = if J1.val < 4096 then 4608 + J1.val else if J1.val < 5120 then J1.val - 3072 else J1.val - 1024
      have := n.isLt
      have := J1.isLt
      unfold srcOf
      split_ifs <;> omega
  have hc : t.val % 11 < 8 ↔ J1.val < 4096 := by have := n.isLt; omega
  show _ = proj (fun k => m ((c : Thread nD τ).loc main_arg0) (ix2 J0 k)) (fun k p => m ((c : Thread nD τ).loc main_arg1) (ix2 k p)) J1
  unfold proj gates
  rw [hd]
  simp only [hc]

/-- and the result its projections. -/
theorem array_eq4 : (dats m 0 c).arrAt 4 cfg0.N = result m c := by
  refine (dats m 0 c).arrAt_eq_of_covers 4 _ (by decide +kernel) fun t hf y => ?_
  blk_simp
  rw [after4]
  refine (left4_apply m c t _ (win0_4.moved_xinj _ y)).trans ?_
  generalize hY : (cfg0.win 4).xinj (cfg0.grid.coords t) y = Y
  obtain ⟨R, n, rfl⟩ : ∃ (R : Fin 2048) (n : Fin 512), Y = ix2 R n := ⟨Y 0, Y 1, eq_ix2 Y⟩
  have hR : (y 0).val = R.val := congrArg (fun Y => (Y 0).val) hY
  have hn : (y 1).val = n.val := congrArg (fun Y => (Y 1).val) hY
  generalize hJ : (win0_4.blk t).view.emb y = J
  obtain ⟨J0, J1, rfl⟩ : ∃ (J0 : Fin 8192) (J1 : Fin 5376), J = ix2 J0 J1 := ⟨J 0, J 1, eq_ix2 J⟩
  refine point_proj m c t R n J0 J1 ?_ ?_
  · rw [← hR, ← show ((win0_4.blk t).view.emb y 0).val = J0.val from congrArg (fun J => (J 0).val) hJ]
    blk_simp [(index_facts t).2.2.2.2.1]
    omega
  · rw [← hn, ← show ((win0_4.blk t).view.emb y 1).val = J1.val from congrArg (fun J => (J 1).val) hJ]
    blk_simp [(index_facts t).2.2.2.2.1]
    omega

/-- The run: the three result arrays, the arguments unchanged. -/
theorem run (ρ : Dev nD → PrngReg) : θ_run defs (onTc (τ := τ) (main (F := Ideal))) ⟨m, fun _ => 0, ρ⟩ fun r => ∀ c : Dev nD,
      (r.2.mem ((c : Thread nD τ).loc main_v0_0) = result m c
      ∧ r.2.mem ((c : Thread nD τ).loc main_v0_1) = (m ((c : Thread nD τ).loc main_arg2) : Vec Ideal S2048x11008 .f32)
      ∧ r.2.mem ((c : Thread nD τ).loc main_v0_2) = (m ((c : Thread nD τ).loc main_arg3) : Vec Ideal S5504x2048 .f32))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨⟨((h.1 c).1 4).trans (array_eq4 m c), ((h.1 c).1 5).trans (array_eq5 m c),
    ((h.1 c).1 6).trans (array_eq6 m c)⟩, h.2.1 c⟩) (Idealize.ShloMosaic.θ_run_and (run_main m ρ) (frame m ρ))

end Cert.Kernel3Ideal.Proj
-- ==== Proof.Proj.Ref.lean ====
/- What the reference of the projection computes, element by element. -/
module

public import proofs.«01_k».proof.Proof.Proj.Array
public import proofs.«01_k».proof.Proof.Gen.Reference3Ideal.Run

@[expose] public section

noncomputable section

namespace Cert.Reference3Ideal.Proj

open Cert.Reference3Ideal Cert.Reference3Ideal.Value Cert.Proj Idealize.ShloMosaic Idealize.ShloMosaic.TcCoe Idealize.SL.Sem

variable (m : (ℓ : Loc nD τ sig) → Buf (Elt Ideal) ℓ)

/-- The reference's run: its results element by element, the arguments unchanged. -/
theorem run (ρ : Dev nD → PrngReg) : θ_run defs (onTc (τ := τ) (main (F := Ideal))) ⟨m, fun _ => 0, ρ⟩ fun r => ∀ c : Dev nD,
      ((∀ (R : Fin 8192) (p : Fin 5376), r.2.mem ((c : Thread nD τ).loc main_v12) (ix2 R p)
        = proj (fun k => m ((c : Thread nD τ).loc main_arg0) (ix2 R k)) (fun k p => m ((c : Thread nD τ).loc main_arg1) (ix2 k p)) p)
      ∧ r.2.mem ((c : Thread nD τ).loc main_v13) = (m ((c : Thread nD τ).loc main_arg2) : Vec Ideal S2048x11008 .f32)
      ∧ r.2.mem ((c : Thread nD τ).loc main_v14) = (m ((c : Thread nD τ).loc main_arg3) : Vec Ideal S5504x2048 .f32))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨⟨fun R p => (congrFun (h c).1 (ix2 R p)).trans ?_, (h c).2.1, (h c).2.2.1⟩, (h c).2.2.2⟩)
    (Value.run (F := Ideal) m ρ)
  unfold proj gate dot
  pointwise []
  have hp := p.isLt
  by_cases h1 : p.val < 4096
  · rw [show colOf p = ⟨4608 + p.val, by omega⟩ from Fin.ext (if_pos h1), dif_pos h1, if_pos h1]
  · rw [dif_neg h1, if_neg h1]
    by_cases h2 : p.val < 5120
    · rw [show colOf p = ⟨1024 + (p.val - 4096), by omega⟩ from
        Fin.ext ((if_neg h1).trans ((if_pos h2).trans (show p.val - 3072 = 1024 + (p.val - 4096) by omega))), dif_pos (by omega)]
    · rw [show colOf p = ⟨4096 + (p.val - 4096 - 1024), by omega⟩ from
        Fin.ext ((if_neg h1).trans ((if_neg h2).trans (show p.val - 1024 = 4096 + (p.val - 4096 - 1024) by omega))), dif_neg (by omega)]

end Cert.Reference3Ideal.Proj
-- ==== Proof.Proj.Claims.lean ====
/- The claims about the projection call. -/
module

public import proofs.«01_k».proof.Defs
public import proofs.«01_k».proof.Proof.Proj.Ref
public import proofs.«01_k».proof.Proof.Gen.Kernel3

@[expose] public section

noncomputable section

namespace Cert.Proj

open Idealize.ShloMosaic Idealize.ShloMosaic.TcCoe

instance facts : Cert.Kernel3.Facts := Cert.Kernel3.Gen.facts
instance factsIdeal : Cert.Kernel3Ideal.Facts := Cert.Kernel3Ideal.Gen.facts

/-- The original's body is the idealized one's: no operation of it was replaced. -/
theorem table_eq : @Cert.Kernel3.defs₀ Bits _ _ = @Cert.Kernel3Ideal.defs₀ Bits _ _ := by
  unfold Cert.Kernel3.defs₀ Cert.Kernel3Ideal.defs₀
  refine congrArg Defs.onTc (funext fun l => funext fun x => ?_)
  match l, x with
  | 0, (t, s) => rfl

theorem defs_eq : @Cert.Kernel3.defs Bits _ _ = @Cert.Kernel3Ideal.defs Bits _ _ :=
  congrArg (Pipeline.defs Cert.Kernel3Ideal.pcfgs) table_eq

theorem frame_p : Cert.quiescent_Kernel3 := fun m ρ _ =>
  (congrArg (fun d => θ_run d (onTc (τ := Cert.Kernel3.τ) (Cert.Kernel3.main (F := Bits))) ⟨m, fun _ => 0, ρ⟩ _) defs_eq).mpr
    (Cert.Kernel3Ideal.Proj.frame (F := Bits) m ρ)

theorem frame_pi : Cert.quiescent_Kernel3Ideal := fun m ρ _ => Cert.Kernel3Ideal.Proj.frame m ρ

theorem frame_ri : Cert.quiescent_Reference3Ideal := fun m ρ _ =>
  (θ_run Cert.Reference3Ideal.defs _ _).mono
    (fun r h => ⟨fun c => (h c).2, Idealize.ShloMosaic.sem_eq_zero_of_no_sems (by decide) r.2⟩) (Cert.Reference3Ideal.Proj.run m ρ)

theorem preserves : Cert.preserves_Kernel3_Kernel3Ideal := trivial

/-- On equal arguments the kernel's three arrays are the reference's. -/
theorem algebraic : Cert.algebraic_Kernel3Ideal_Reference3Ideal := by
  intro m ρ m' ρ' _ hagree
  refine ⟨_, _, _, (θ_run Cert.Kernel3Ideal.defs _ _).mono
    (fun _ h c => ⟨(h c).1.1, (h c).1.2.1, (h c).1.2.2, (h c).2⟩) (Cert.Kernel3Ideal.Proj.run m ρ), ?_⟩
  refine (θ_run Cert.Reference3Ideal.defs _ _).mono (fun _ h c => ⟨?_, (h c).1.2.1.trans (hagree c).2.2.1,
    (h c).1.2.2.trans (hagree c).2.2.2, (h c).2⟩) (Cert.Reference3Ideal.Proj.run m' ρ')
  obtain ⟨h0, h1, -, -⟩ := hagree c
  funext i
  obtain ⟨r, n, rfl⟩ : ∃ (r : Fin 8192) (n : Fin 5376), i = ix2 r n := ⟨i 0, i 1, eq_ix2 i⟩
  refine ((h c).1.1 r n).trans ?_
  rw [h0, h1]
  rfl

end Cert.Proj
-- ==== Proof.ProjT.Runs.lean ====
module

public import proofs.«01_k».proof.Proof.Gen.Kernel4Ideal.Frame
public import proofs.«01_k».proof.Proof.Gen.Kernel4Ideal.Skeleton
public import Idealize.ShloMosaic.Lib.Pipeline.TableIdle

/-!
What one grid point of the transposed projection leaves in its output blocks.

The body has two branches on the column block: a whole block, and the last block, of which only the
first half lies inside the result.  Each branch is run once, on any buffers, and yields the list of
stores it made into the three output blocks: sixteen transposed slabs of 128 rows and the two casts.
-/

@[expose] public section

set_option maxRecDepth 16384

noncomputable section

namespace Cert.Kernel4Ideal.ProjT

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body, run from blocks holding `x0` to `x3` and from output blocks and scratch holding anything,
leaves the inputs as they were and the three output blocks with the stores `L4`, `L5`, `L6` made. -/
def Runs (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x2048 .f32) (harg4 : arg4.IsWhole) (arg5 : Memref sig .tc .vmem S128x2048 .f32) (harg5 : arg5.IsWhole) (arg6 : Memref sig .tc .vmem S16x512x128 .bf16) (harg6 : arg6.IsWhole) (arg7 : Memref sig .tc .vmem S64x2048 .bf16) (harg7 : arg7.IsWhole) (arg8 : Memref sig .tc .vmem S128x2048 .bf16) (harg8 : arg8.IsWhole) (arg9 : Memref sig .tc .vmem S2048x512 .bf16) (harg9 : arg9.IsWhole) (x0 : Vec F S2048x2048 .bf16) (x1 : Vec F S2048x512 .f32) (x2 : Vec F S64x2048 .f32) (x3 : Vec F S128x2048 .f32)
    (L4 : List (View.Piece (Elt F) S16x512x128 .bf16)) (L5 : List (View.Piece (Elt F) S64x2048 .bf16))
    (L6 : List (View.Piece (Elt F) S128x2048 .bf16)) : Prop :=
  ∀ (E : Set ℕ) (K : PUnit → sProp 𝕄),
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} f)) -∗ K ⟨⟩))
      ⊢ wp frame (wpE (defs₀ (F := F)) Variants.none c none) E (cc0_proj_t i arg2 harg2 arg3 harg3 arg4 harg4 arg5 harg5 arg6 harg6 arg7 harg7 arg8 harg8 arg9 harg9) K

end Cert.Kernel4Ideal.ProjT

end
-- ==== Proof.ProjT.RunFull.lean ====
module

public import proofs.«01_k».proof.Proof.ProjT.Runs

/-! The stores of one branch of the transposed projection body. -/

@[expose] public section

set_option maxRecDepth 16384

noncomputable section

namespace Cert.Kernel4Ideal.ProjT

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A whole block: the stores its branch makes, found by running it. -/
def runFull (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x2048 .f32) (harg4 : arg4.IsWhole) (arg5 : Memref sig .tc .vmem S128x2048 .f32) (harg5 : arg5.IsWhole) (arg6 : Memref sig .tc .vmem S16x512x128 .bf16) (harg6 : arg6.IsWhole) (arg7 : Memref sig .tc .vmem S64x2048 .bf16) (harg7 : arg7.IsWhole) (arg8 : Memref sig .tc .vmem S128x2048 .bf16) (harg8 : arg8.IsWhole) (arg9 : Memref sig .tc .vmem S2048x512 .bf16) (harg9 : arg9.IsWhole) (h1 : k0_cond1 i = 1#1) (h2 : ¬k0_cond2 i = 1#1) (x0 : Vec F S2048x2048 .bf16) (x1 : Vec F S2048x512 .f32) (x2 : Vec F S64x2048 .f32) (x3 : Vec F S128x2048 .f32) :
    Σ' (L4 : List (View.Piece (Elt F) S16x512x128 .bf16)) (L5 : List (View.Piece (Elt F) S64x2048 .bf16)),
      { L6 : List (View.Piece (Elt F) S128x2048 .bf16) // Runs c i arg2 harg2 arg3 harg3 arg4 harg4 arg5 harg5 arg6 harg6 arg7 harg7 arg8 harg8 arg9 harg9 x0 x1 x2 x3 L4 L5 L6 } := by
  refine ⟨?_, ?_, ?_, fun E K => ?run⟩
  case run =>
    simp only [cc0_proj_t_eq_skeleton]; unfold cc0_proj_t_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS

end Cert.Kernel4Ideal.ProjT

end
-- ==== Proof.ProjT.RunLast.lean ====
module

public import proofs.«01_k».proof.Proof.ProjT.Runs

/-! The stores of one branch of the transposed projection body. -/

@[expose] public section

set_option maxRecDepth 16384

noncomputable section

namespace Cert.Kernel4Ideal.ProjT

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last block: the stores its branch makes, found by running it. -/
def runLast (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x2048 .f32) (harg4 : arg4.IsWhole) (arg5 : Memref sig .tc .vmem S128x2048 .f32) (harg5 : arg5.IsWhole) (arg6 : Memref sig .tc .vmem S16x512x128 .bf16) (harg6 : arg6.IsWhole) (arg7 : Memref sig .tc .vmem S64x2048 .bf16) (harg7 : arg7.IsWhole) (arg8 : Memref sig .tc .vmem S128x2048 .bf16) (harg8 : arg8.IsWhole) (arg9 : Memref sig .tc .vmem S2048x512 .bf16) (harg9 : arg9.IsWhole) (h1 : ¬k0_cond1 i = 1#1) (h2 : k0_cond2 i = 1#1) (x0 : Vec F S2048x2048 .bf16) (x1 : Vec F S2048x512 .f32) (x2 : Vec F S64x2048 .f32) (x3 : Vec F S128x2048 .f32) :
    Σ' (L4 : List (View.Piece (Elt F) S16x512x128 .bf16)) (L5 : List (View.Piece (Elt F) S64x2048 .bf16)),
      { L6 : List (View.Piece (Elt F) S128x2048 .bf16) // Runs c i arg2 harg2 arg3 harg3 arg4 harg4 arg5 harg5 arg6 harg6 arg7 harg7 arg8 harg8 arg9 harg9 x0 x1 x2 x3 L4 L5 L6 } := by
  refine ⟨?_, ?_, ?_, fun E K => ?run⟩
  case run =>
    simp only [cc0_proj_t_eq_skeleton]; unfold cc0_proj_t_skel
    simp only [k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds, %fs, -, HS⟩, Hk⟩
    obtain rfl := harg2.eq_unread hf0; obtain rfl := harg3.eq_unread hf1; obtain rfl := harg4.eq_unread hf2; obtain rfl := harg5.eq_unread hf3
    sl_exec (disch := first | sl_exact h1 | sl_exact h2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    iexists _; iexact HS

end Cert.Kernel4Ideal.ProjT

end
-- ==== Proof.ProjT.Frame.lean ====
module

public import proofs.«01_k».proof.Proof.ProjT.RunFull
public import proofs.«01_k».proof.Proof.ProjT.RunLast
public import Idealize.ShloMosaic.Lib.Claim

/-!
The frame of the transposed projection call: the run terminates, the argument arrays end as they began, and every
result array ends as the blocks written back leave it.

The last column block hangs over the end of the result.  Its point stores the first half only, and what
its buffer holds past that is never moved; the contents are therefore stated on the moved part alone.
-/

@[expose] public section

set_option maxRecDepth 16384

noncomputable section

namespace Cert.Kernel4Ideal.ProjT

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x2048 .f32) (harg4 : arg4.IsWhole) (arg5 : Memref sig .tc .vmem S128x2048 .f32) (harg5 : arg5.IsWhole) (arg6 : Memref sig .tc .vmem S16x512x128 .bf16) (harg6 : arg6.IsWhole) (arg7 : Memref sig .tc .vmem S64x2048 .bf16) (harg7 : arg7.IsWhole) (arg8 : Memref sig .tc .vmem S128x2048 .bf16) (harg8 : arg8.IsWhole) (arg9 : Memref sig .tc .vmem S2048x512 .bf16) (harg9 : arg9.IsWhole) (x0 : Vec F S2048x2048 .bf16) (x1 : Vec F S2048x512 .f32) (x2 : Vec F S64x2048 .f32) (x3 : Vec F S128x2048 .f32)

/-- The stores of a whole block fill the block of the result. -/
theorem coverFull4 (h1 : k0_cond1 i = 1#1) (h2 : ¬k0_cond2 i = 1#1) (y : S16x512x128.Idx) :
    ∃ p ∈ (runFull c i arg2 harg2 arg3 harg3 arg4 harg4 arg5 harg5 arg6 harg6 arg7 harg7 arg8 harg8 arg9 harg9 h1 h2 x0 x1 x2 x3).1, y ∈ p.1.set :=
  View.cover_of_tiledL (runFull c i arg2 harg2 arg3 harg3 arg4 harg4 arg5 harg5 arg6 harg6 arg7 harg7 arg8 harg8 arg9 harg9 h1 h2 x0 x1 x2 x3).1 S1x512x128.size (by sl_kernel_rfl) y

/-- The stores of a whole block fill the first cast block. -/
theorem coverFull5 (h1 : k0_cond1 i = 1#1) (h2 : ¬k0_cond2 i = 1#1) (y : S64x2048.Idx) :
    ∃ p ∈ (runFull c i arg2 harg2 arg3 harg3 arg4 harg4 arg5 harg5 arg6 harg6 arg7 harg7 arg8 harg8 arg9 harg9 h1 h2 x0 x1 x2 x3).2.1, y ∈ p.1.set :=
  View.cover_of_tiledL (runFull c i arg2 harg2 arg3 harg3 arg4 harg4 arg5 harg5 arg6 harg6 arg7 harg7 arg8 harg8 arg9 harg9 h1 h2 x0 x1 x2 x3).2.1 S64x2048.size (by sl_kernel_rfl) y

/-- The stores of a whole block fill the second cast block. -/
theorem coverFull6 (h1 : k0_cond1 i = 1#1) (h2 : ¬k0_cond2 i = 1#1) (y : S128x2048.Idx) :
    ∃ p ∈ (runFull c i arg2 harg2 arg3 harg3 arg4 harg4 arg5 harg5 arg6 harg6 arg7 harg7 arg8 harg8 arg9 harg9 h1 h2 x0 x1 x2 x3).2.2.1, y ∈ p.1.set :=
  View.cover_of_tiledL (runFull c i arg2 harg2 arg3 harg3 arg4 harg4 arg5 harg5 arg6 harg6 arg7 harg7 arg8 harg8 arg9 harg9 h1 h2 x0 x1 x2 x3).2.2.1 S128x2048.size (by sl_kernel_rfl) y

/-- The stores of the last block fill the first cast block. -/
theorem coverLast5 (h1 : ¬k0_cond1 i = 1#1) (h2 : k0_cond2 i = 1#1) (y : S64x2048.Idx) :
    ∃ p ∈ (runLast c i arg2 harg2 arg3 harg3 arg4 harg4 arg5 harg5 arg6 harg6 arg7 harg7 arg8 harg8 arg9 harg9 h1 h2 x0 x1 x2 x3).2.1, y ∈ p.1.set :=
  View.cover_of_tiledL (runLast c i arg2 harg2 arg3 harg3 arg4 harg4 arg5 harg5 arg6 harg6 arg7 harg7 arg8 harg8 arg9 harg9 h1 h2 x0 x1 x2 x3).2.1 S64x2048.size (by sl_kernel_rfl) y

/-- The stores of the last block fill the second cast block. -/
theorem coverLast6 (h1 : ¬k0_cond1 i = 1#1) (h2 : k0_cond2 i = 1#1) (y : S128x2048.Idx) :
    ∃ p ∈ (runLast c i arg2 harg2 arg3 harg3 arg4 harg4 arg5 harg5 arg6 harg6 arg7 harg7 arg8 harg8 arg9 harg9 h1 h2 x0 x1 x2 x3).2.2.1, y ∈ p.1.set :=
  View.cover_of_tiledL (runLast c i arg2 harg2 arg3 harg3 arg4 harg4 arg5 harg5 arg6 harg6 arg7 harg7 arg8 harg8 arg9 harg9 h1 h2 x0 x1 x2 x3).2.2.1 S128x2048.size (by sl_kernel_rfl) y

/-- The second halves of the sixteen slabs lie in the block. -/
theorem farHalf_inb (k : Fin 16) (a : Fin S16x512x128.rank) :
    (![k.val, 256, 0] : Fin 3 → ℕ) a + S1x256x128.size a ≤ S16x512x128.size a := by
  fin_cases a
  · show k.val + 1 ≤ 16; omega
  · show 256 + 256 ≤ 512; omega
  · show 0 + 128 ≤ 128; omega

/-- Stores of zeros into the second half of the block, used only to count what the last block's stores miss. -/
def farHalf : List (View.Piece (Elt F) S16x512x128 .bf16) :=
  List.ofFn fun k : Fin 16 => ⟨Rect.unit (s := S16x512x128) ![k.val, 256, 0] S1x256x128.size (farHalf_inb k), constant S1x256x128 .bf16 0x0000#16⟩

/-- The stores of the last block fill the first half of the block of the result. -/
theorem coverLast4 (h1 : ¬k0_cond1 i = 1#1) (h2 : k0_cond2 i = 1#1) (y : S16x512x128.Idx) (hy : (y 1).val < 256) :
    ∃ p ∈ (runLast c i arg2 harg2 arg3 harg3 arg4 harg4 arg5 harg5 arg6 harg6 arg7 harg7 arg8 harg8 arg9 harg9 h1 h2 x0 x1 x2 x3).1, y ∈ p.1.set := by
  obtain ⟨p, hp, hm⟩ := View.cover_of_tiledL (s := S16x512x128) (e := .bf16) ((runLast c i arg2 harg2 arg3 harg3 arg4 harg4 arg5 harg5 arg6 harg6 arg7 harg7 arg8 harg8 arg9 harg9 h1 h2 x0 x1 x2 x3).1 ++ farHalf)
    S1x256x128.size (by sl_kernel_rfl) y
  rcases List.mem_append.mp hp with h | h
  · exact ⟨p, h, hm⟩
  · obtain ⟨k, rfl⟩ := (List.mem_ofFn' _ _).mp h
    have hm' : y ∈ (Rect.unit (s := S16x512x128) ![k.val, 256, 0] S1x256x128.size (farHalf_inb k)).set := hm
    have : 256 ≤ (y 1).val := (Rect.mem_set_unit.mp hm' 1).1
    omega
end

variable (m : (ℓ : Loc nD τ sig) → Buf (Elt F) ℓ) (ρ : Dev nD → PrngReg)

/-! ## The two kinds of points -/

/-- Exactly one branch is taken at every point. -/
theorem branches : ∀ t : Fin cfg0.N,
    (k0_cond1 (grid0.coords t) = 1#1 ∧ ¬k0_cond2 (grid0.coords t) = 1#1)
    ∨ (¬k0_cond1 (grid0.coords t) = 1#1 ∧ k0_cond2 (grid0.coords t) = 1#1) := by
  decide +kernel

/-- The whole blocks are the first six column blocks. -/
theorem cond1_iff : ∀ t : Fin cfg0.N, k0_cond1 (grid0.coords t) = 1#1 ↔ t.val % 7 < 6 := by decide +kernel

/-- No point leaves an output block alone. -/
theorem live : ∀ t : Fin cfg0.N, cfg0.idle 4 (grid0.coords t) = false ∧ cfg0.idle 5 (grid0.coords t) = false
    ∧ cfg0.idle 6 (grid0.coords t) = false := by decide +kernel

/-- At a last block the part of the result's block inside the array is its first half. -/
theorem moved_last : ∀ t : Fin cfg0.N, k0_cond2 (grid0.coords t) = 1#1 → win0_4.xsize (grid0.coords t) 1 = 256 := by
  decide +kernel

/-- The stores of the point into the three output blocks. -/
def point (c : Dev nD) (t : Fin cfg0.N) :
    Σ' (L4 : List (View.Piece (Elt F) S16x512x128 .bf16)) (L5 : List (View.Piece (Elt F) S64x2048 .bf16)),
      { L6 : List (View.Piece (Elt F) S128x2048 .bf16) //
        Runs c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) (iblk m c 0 t) (iblk m c 1 t) (iblk m c 2 t) (iblk m c 3 t) L4 L5 L6 } :=
  if h1 : k0_cond1 (grid0.coords t) = 1#1 then
    runFull c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) h1
      (by rcases branches t with h | h <;> tauto) (iblk m c 0 t) (iblk m c 1 t) (iblk m c 2 t) (iblk m c 3 t)
  else
    runLast c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (Memref.whole cc0_scratch0) (Memref.isWhole_whole _) h1
      (by rcases branches t with h | h <;> tauto) (iblk m c 0 t) (iblk m c 1 t) (iblk m c 2 t) (iblk m c 3 t)

/-- What a block holds after the stores `L`, where they reach. -/
abbrev left4 (L : List (View.Piece (Elt F) S16x512x128 .bf16)) : Vec F S16x512x128 .bf16 :=
  (Memref.whole cc0_stg4_0).view.read (Elt F) ((Memref.whole cc0_stg4_0).view.writes (Elt F) (Memref.whole cc0_stg4_0).view.junk L)
@[inherit_doc left4] abbrev left5 (L : List (View.Piece (Elt F) S64x2048 .bf16)) : Vec F S64x2048 .bf16 :=
  (Memref.whole cc0_stg5_0).view.read (Elt F) ((Memref.whole cc0_stg5_0).view.writes (Elt F) (Memref.whole cc0_stg5_0).view.junk L)
@[inherit_doc left4] abbrev left6 (L : List (View.Piece (Elt F) S128x2048 .bf16)) : Vec F S128x2048 .bf16 :=
  (Memref.whole cc0_stg6_0).view.read (Elt F) ((Memref.whole cc0_stg6_0).view.writes (Elt F) (Memref.whole cc0_stg6_0).view.junk L)

/-- On the part that is moved, the stores of the point fill the block of the result. -/
theorem cover4 (c : Dev nD) (t : Fin cfg0.N) (y : S16x512x128.Idx) (hy : win0_4.moved (grid0.coords t) y = true) :
    ∃ p ∈ (point m c t).1, y ∈ p.1.set := by
  unfold point
  by_cases h1 : k0_cond1 (grid0.coords t) = 1#1
  · rw [dif_pos h1]
    exact coverFull4 _ _ _ _ _ _ _ _ _ _ _ _ _ _ _ _ _ _ _ _ _ _ _ _ y
  · rw [dif_neg h1]
    refine coverLast4 _ _ _ _ _ _ _ _ _ _ _ _ _ _ _ _ _ _ _ _ _ _ _ _ y ?_
    have h := (win0_4.moved_iff _ _).mp hy 1
    rwa [moved_last t (by rcases branches t with h | h <;> tauto)] at h

/-- The stores of the point fill the first cast block, -/
theorem cover5 (c : Dev nD) (t : Fin cfg0.N) (y : S64x2048.Idx) : ∃ p ∈ (point m c t).2.1, y ∈ p.1.set := by
  unfold point
  by_cases h1 : k0_cond1 (grid0.coords t) = 1#1
  · rw [dif_pos h1]
    exact coverFull5 _ _ _ _ _ _ _ _ _ _ _ _ _ _ _ _ _ _ _ _ _ _ _ _ y
  · rw [dif_neg h1]
    exact coverLast5 _ _ _ _ _ _ _ _ _ _ _ _ _ _ _ _ _ _ _ _ _ _ _ _ y

/-- and the second. -/
theorem cover6 (c : Dev nD) (t : Fin cfg0.N) (y : S128x2048.Idx) : ∃ p ∈ (point m c t).2.2.1, y ∈ p.1.set := by
  unfold point
  by_cases h1 : k0_cond1 (grid0.coords t) = 1#1
  · rw [dif_pos h1]
    exact coverFull6 _ _ _ _ _ _ _ _ _ _ _ _ _ _ _ _ _ _ _ _ _ _ _ _ y
  · rw [dif_neg h1]
    exact coverLast6 _ _ _ _ _ _ _ _ _ _ _ _ _ _ _ _ _ _ _ _ _ _ _ _ y

/-! ## The proof data and the body -/

/-- The arrays as launched; after a point the input blocks in place and the output blocks with the point's
stores; nothing said of the scratch, which every point fills before reading it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => left4 (point m c t).1
    | ⟨5, _⟩ => left5 (point m c t).2.1
    | ⟨6, _⟩ => left6 (point m c t).2.2.1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = left4 (point m c t).1 := by dsimp only [dats]
theorem after5 (c : Dev nD) (t : Fin cfg0.N) : (dats m 0 c).after 5 t = left5 (point m c t).2.1 := by dsimp only [dats]
theorem after6 (c : Dev nD) (t : Fin cfg0.N) : (dats m 0 c).after 6 t = left6 (point m c t).2.2.1 := by dsimp only [dats]

/-- The invariant of the launch: the scratch at anything and the random state at anything. -/
theorem launchInv_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- The body at a point, from the blocks as the pipeline hands them over to the blocks as it takes them back. -/
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d))
        ∗ (∃ d, owns (c : Thread nD τ) (st0_5 t) fullShare ((dats m 0 c).before 5 t d))
        ∗ (∃ d, owns (c : Thread nD τ) (st0_6 t) fullShare ((dats m 0 c).before 6 t d)))
      ⊢ wp frame (wpE (defs₀ (F := F)) Variants.none c none) Set.univ (bodyAt0 t) fun _ =>
          iprop((dats m 0 c).Φ t.succ ∗ (dats m 0 c).owesAt () t.succ
            ∗ (dats m 0 c).leaves 0 t ∗ (dats m 0 c).leaves 1 t ∗ (dats m 0 c).leaves 2 t ∗ (dats m 0 c).leaves 3 t
            ∗ (dats m 0 c).leaves 4 t ∗ (dats m 0 c).leaves 5 t ∗ (dats m 0 c).leaves 6 t) := by
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, launchInv_eq]
  rw [show (dats m 0 c).leaves 0 t = owns (c : Thread nD τ) (st0_0 t) fullShare (iblk m c 0 t) from by
      unfold Dat.leaves; rw [show cfg0.idle 0 (cfg0.grid.coords t) = false from rfl, after0],
    show (dats m 0 c).leaves 1 t = owns (c : Thread nD τ) (st0_1 t) fullShare (iblk m c 1 t) from by
      unfold Dat.leaves; rw [show cfg0.idle 1 (cfg0.grid.coords t) = false from rfl, after1],
    show (dats m 0 c).leaves 2 t = owns (c : Thread nD τ) (st0_2 t) fullShare (iblk m c 2 t) from by
      unfold Dat.leaves; rw [show cfg0.idle 2 (cfg0.grid.coords t) = false from rfl, after2],
    show (dats m 0 c).leaves 3 t = owns (c : Thread nD τ) (st0_3 t) fullShare (iblk m c 3 t) from by
      unfold Dat.leaves; rw [show cfg0.idle 3 (cfg0.grid.coords t) = false from rfl, after3],
    show (dats m 0 c).leaves 4 t = iprop(∃ d, owns (c : Thread nD τ) (st0_4 t) fullShare
        (win0_4.fill (grid0.coords t) d (win0_4.cut (grid0.coords t) (left4 (point m c t).1)))) from by
      unfold Dat.leaves; rw [show cfg0.idle 4 (cfg0.grid.coords t) = false from (live t).1, after4],
    show (dats m 0 c).leaves 5 t = owns (c : Thread nD τ) (st0_5 t) fullShare (left5 (point m c t).2.1) from by
      unfold Dat.leaves; rw [show cfg0.idle 5 (cfg0.grid.coords t) = false from (live t).2.1, after5],
    show (dats m 0 c).leaves 6 t = owns (c : Thread nD τ) (st0_6 t) fullShare (left6 (point m c t).2.2.1) from by
      unfold Dat.leaves; rw [show cfg0.idle 6 (cfg0.grid.coords t) = false from (live t).2.2, after6]]
  simp only [before0_0_of m (dats m 0 c) (A_eq m c 0) (after0 m c) t, before0_1_of m (dats m 0 c) (A_eq m c 1) (after1 m c) t,
    before0_2_of m (dats m 0 c) (A_eq m c 2) (after2 m c) t, before0_3_of m (dats m 0 c) (A_eq m c 3) (after3 m c) t]
  iintro ⟨⟨⟨%ds, HS⟩, Hg⟩, Ho, ⟨%d0, H0⟩, ⟨%d1, H1⟩, ⟨%d2, H2⟩, ⟨%d3, H3⟩, ⟨%d4, H4⟩, ⟨%d5, H5⟩, ⟨%d6, H6⟩⟩
  iapply ((point m c t).2.2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS]; · iexists _; iexact HS
  iintro ⟨H0, H1, H2, H3, ⟨%e4, H4⟩, ⟨%e5, H5⟩, ⟨%e6, H6⟩, ⟨%fs, HS⟩⟩
  isplitl [HS Hg]
  · isplitl [HS]
    · unfold owns
      iexists (Memref.whole cc0_scratch0).view.read (Elt F) fs, fs
      isplitr
      · ipureintro; rfl
      iexact HS
    iexact Hg
  isplitl [Ho]; · iexact Ho
  isplitl [H0]; · iexact H0
  isplitl [H1]; · iexact H1
  isplitl [H2]; · iexact H2
  isplitl [H3]; · iexact H3
  isplitl [H4]
  · unfold owns
    iexists (st0_4 t).view.read (Elt F) ((st0_4 t).view.writes (Elt F) e4 (point m c t).1), _
    isplitr
    swap; · iexact H4
    ipureintro
    funext j
    unfold Pipeline.Window.fill
    split
    · rename_i h
      exact View.read_writes_apply_eq _ _ _ _ _ _ (cover4 m c t j h)
    · rfl
  isplitl [H5]
  · unfold owns; iexists _; isplitr
    swap; · iexact H5
    ipureintro; exact View.read_writes_of_cover _ _ _ _ _ (cover5 m c t)
  unfold owns; iexists _; isplitr
  swap; · iexact H6
  ipureintro; exact View.read_writes_of_cover _ _ _ _ _ (cover6 m c t)

/-- The body table's row at a point is the body at that point. -/
theorem row_eq (t : Fin cfg0.N) :
    defs₀ (F := F) .tc cfg0.body (cfg0.bodyArgs t (cfg0.slots t)) = bodyAt0 t := by
  unfold defs₀; rw [Defs.onTc_tc]

/-- The obligation of the pipeline's rule. -/
theorem body_obligation (c : Dev nD) :
    Pipeline.BodyObligationLoose (dats (F := F) m 0 c) (defs₀ (F := F)) Variants.none () Set.univ := fun t => by
  rw [bigSep_W0, bigSep_W0, row_eq]
  exact triple_restated (sound_body m c t) rfl .rfl fun _ => .rfl

/-! ## The run -/

set_option backward.isDefEq.respectTransparency.types false in
/-- Every run terminates with the arrays as the write-backs leave them and every semaphore counter at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m)
    (hin := fun _ => .rfl) (hout := fun _ => .rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel4Ideal.ProjT

end
-- ==== Proof.ProjT.Spec.lean ====
/- What the stores of the transposed projection hold, as projections of one row on one column. -/
module

public import proofs.«01_k».proof.Proof.ProjT.Frame
public import proofs.«01_k».proof.Proof.Proj.Array

@[expose] public section

set_option maxRecDepth 16384

noncomputable section

namespace Cert.Kernel4Ideal.ProjT

open Cert.Kernel4Ideal.Gen Cert.Proj
open Idealize.ShloMosaic Idealize.ShloMosaic.TcCoe

/-! ## The stored values -/

section
variable (v : Vec Ideal S256x2048 .bf16) (w : Vec Ideal S2048x512 .bf16) (q : Fin 512) (r : Fin 128)

/-- The first 128 rows of a chunk, transposed, -/
theorem pay7_apply (z : Fin 1) : k0_pay7 v w (ix3 z q r) = dot (fun k => v (ix2 (⟨r.val, by omega⟩ : Fin 256) k)) (fun k => w (ix2 k q)) := by
  unfold dot
  pointwise [k0_pay7, k0_pay6]

/-- and the others. -/
theorem pay8_apply (z : Fin 1) : k0_pay8 v w (ix3 z q r) = dot (fun k => v (ix2 (⟨128 + r.val, by omega⟩ : Fin 256) k)) (fun k => w (ix2 k q)) := by
  unfold dot
  pointwise [k0_pay8, k0_pay6]

theorem pay10_eq : @k0_pay10 Ideal _ = k0_pay7 := rfl
theorem pay13_eq : @k0_pay13 Ideal _ = k0_pay7 := rfl
theorem pay20_eq : @k0_pay20 Ideal _ = k0_pay7 := rfl
theorem pay27_eq : @k0_pay27 Ideal _ = k0_pay7 := rfl
theorem pay30_eq : @k0_pay30 Ideal _ = k0_pay7 := rfl
theorem pay11_eq : @k0_pay11 Ideal _ = k0_pay8 := rfl
theorem pay14_eq : @k0_pay14 Ideal _ = k0_pay8 := rfl
theorem pay21_eq : @k0_pay21 Ideal _ = k0_pay8 := rfl
theorem pay28_eq : @k0_pay28 Ideal _ = k0_pay8 := rfl
theorem pay17_eq : k0_pay17 (k0_pay16 v w) = k0_pay7 v w := rfl
theorem pay18_eq : k0_pay18 (k0_pay15 v w) = k0_pay8 v w := rfl
theorem pay24_eq : k0_pay24 (k0_pay23 v w) = k0_pay7 v w := rfl
theorem pay25_eq : k0_pay25 (k0_pay22 v w) = k0_pay8 v w := rfl
theorem pay1_eq : k0_pay1 (k0_pay29 v w) = k0_pay8 v w := rfl

end

section
variable (v : Vec Ideal S256x2048 .bf16) (w : Vec Ideal S2048x256 .bf16) (q : Fin 256) (r : Fin 128)

theorem pay35_apply (z : Fin 1) : k0_pay35 v w (ix3 z q r) = dot (fun k => v (ix2 (⟨r.val, by omega⟩ : Fin 256) k)) (fun k => w (ix2 k q)) := by
  unfold dot
  pointwise [k0_pay35, k0_pay34]

theorem pay36_apply (z : Fin 1) : k0_pay36 v w (ix3 z q r) = dot (fun k => v (ix2 (⟨128 + r.val, by omega⟩ : Fin 256) k)) (fun k => w (ix2 k q)) := by
  unfold dot
  pointwise [k0_pay36, k0_pay34]

theorem pay38_eq : @k0_pay38 Ideal _ = k0_pay35 := rfl
theorem pay41_eq : @k0_pay41 Ideal _ = k0_pay35 := rfl
theorem pay48_eq : @k0_pay48 Ideal _ = k0_pay35 := rfl
theorem pay55_eq : @k0_pay55 Ideal _ = k0_pay35 := rfl
theorem pay58_eq : @k0_pay58 Ideal _ = k0_pay35 := rfl
theorem pay39_eq : @k0_pay39 Ideal _ = k0_pay36 := rfl
theorem pay42_eq : @k0_pay42 Ideal _ = k0_pay36 := rfl
theorem pay49_eq : @k0_pay49 Ideal _ = k0_pay36 := rfl
theorem pay56_eq : @k0_pay56 Ideal _ = k0_pay36 := rfl
theorem pay45_eq : k0_pay45 (k0_pay44 v w) = k0_pay35 v w := rfl
theorem pay46_eq : k0_pay46 (k0_pay43 v w) = k0_pay36 v w := rfl
theorem pay52_eq : k0_pay52 (k0_pay51 v w) = k0_pay35 v w := rfl
theorem pay53_eq : k0_pay53 (k0_pay50 v w) = k0_pay36 v w := rfl
theorem pay2_eq : k0_pay2 (k0_pay57 v w) = k0_pay36 v w := rfl

end

/-- A cast changes no value. -/
theorem pay3_eq (w : Vec Ideal S2048x512 .f32) : k0_pay3 w = w := by
  funext y
  pointwise [k0_pay3]
theorem pay31_eq : @k0_pay31 Ideal _ = k0_pay3 := rfl

/-! ## The stores of a point -/

section
variable (x0 : Vec Ideal S2048x2048 .bf16) (x1 : Vec Ideal S2048x512 .f32)

/-- Sixteen slabs of 128 rows, each transposed, from the columns beginning at `o`. -/
def slabs (o : ℕ) : Vec Ideal S16x512x128 .bf16 := fun y =>
  dot (fun k => x0 (ix2 (⟨128 * (y 0 : Fin 16).val + (y 2 : Fin 128).val, by
      have h0 : (y 0).val < 16 := (y 0).isLt
      have h2 : (y 2).val < 128 := (y 2).isLt
      omega⟩ : Fin 2048) k))
    (fun k => x1 (ix2 k (⟨(o + (y 1 : Fin 512).val) % 512, Nat.mod_lt _ (by decide)⟩ : Fin 512)))

/-- The rows a chunk of 256 rows starting at row `o` loads. -/
theorem ld_rows (o : ℕ) (inb : ∀ a, ![o, 0] a + ![256, 2048] a ≤ S2048x2048.size a) (r : Fin 256) (R : Fin 2048)
    (hR : R.val = o + r.val) (k : Fin 2048) :
    View.ld x0 (Rect.unit (s := S2048x2048) ![o, 0] ![256, 2048] inb) (ix2 r k) = x0 (ix2 R k) :=
  View.ld_unit_apply_of x0 _ _ inb _ _ fun a => by
    match a with
    | ⟨0, _⟩ => exact hR
    | ⟨1, _⟩ => exact (Nat.zero_add _).symm

/-- The right half of the columns. -/
theorem ld_right (inb : ∀ a, ![0, 256] a + ![2048, 256] a ≤ S2048x512.size a) (k : Fin 2048) (q : Fin 256) :
    View.ld x1 (Rect.unit (s := S2048x512) ![0, 256] ![2048, 256] inb) (ix2 k q) = x1 (ix2 k ⟨256 + q.val, by omega⟩) :=
  View.ld_unit_apply_of x1 _ _ inb _ _ fun a => by
    match a with
    | ⟨0, _⟩ => exact (Nat.zero_add _).symm
    | ⟨1, _⟩ => rfl

/-- The right half of the columns of the filled scratch. -/
theorem readCov_right {κ : Kind} {sp : Space} (v : View sig κ sp S2048x512 .bf16) (w : Vec Ideal S2048x512 .bf16)
    (inb : ∀ a, (![0, 0] : Fin 2 → ℕ) a + S2048x512.size a ≤ S2048x512.size a)
    (inb' : ∀ a, (![0, 256] : Fin 2 → ℕ) a + S2048x256.size a ≤ S2048x512.size a) :
    v.readCov [(⟨Rect.unit (s := S2048x512) ![0, 0] S2048x512.size inb, w⟩ : View.Piece (Elt Ideal) S2048x512 .bf16)]
        (Rect.unit (s := S2048x512) ![0, 256] S2048x256.size inb').toLoadRect
      = View.ld w (Rect.unit (s := S2048x512) ![0, 256] S2048x256.size inb') :=
  readCov_of_full v (by decide) inb w _

theorem full_even (s o : ℕ) (hs : 128 * s = o + 0) (inb : ∀ a, ![o, 0] a + ![256, 2048] a ≤ S2048x2048.size a)
    (inb' : ∀ a, ![s, 0, 0] a + ![1, 512, 128] a ≤ S16x512x128.size a)
    (x : (Rect.unit (s := S16x512x128) ![s, 0, 0] ![1, 512, 128] inb').shape.Idx) :
    k0_pay7 (View.ld x0 (Rect.unit (s := S2048x2048) ![o, 0] ![256, 2048] inb)) (k0_pay3 x1) x
      = slabs x0 x1 0 ((Rect.unit (s := S16x512x128) ![s, 0, 0] ![1, 512, 128] inb').emb x) := by
  obtain ⟨z, q, r, rfl⟩ : ∃ (z : Fin 1) (q : Fin 512) (r : Fin 128), x = ix3 z q r := ⟨x 0, x 1, x 2, eq_ix3 x⟩
  rw [pay7_apply, pay3_eq]
  refine congrArg₂ dot (funext fun k => ?_) (funext fun k => congrArg x1 ?_)
  · refine ld_rows x0 o inb _ _ ?_ k
    blk_simp
    dsimp only
    omega
  · refine congrArg (ix2 k) (Fin.ext ?_)
    blk_simp
    dsimp only
    omega

theorem full_odd (s o : ℕ) (hs : 128 * s = o + 128) (inb : ∀ a, ![o, 0] a + ![256, 2048] a ≤ S2048x2048.size a)
    (inb' : ∀ a, ![s, 0, 0] a + ![1, 512, 128] a ≤ S16x512x128.size a)
    (x : (Rect.unit (s := S16x512x128) ![s, 0, 0] ![1, 512, 128] inb').shape.Idx) :
    k0_pay8 (View.ld x0 (Rect.unit (s := S2048x2048) ![o, 0] ![256, 2048] inb)) (k0_pay3 x1) x
      = slabs x0 x1 0 ((Rect.unit (s := S16x512x128) ![s, 0, 0] ![1, 512, 128] inb').emb x) := by
  obtain ⟨z, q, r, rfl⟩ : ∃ (z : Fin 1) (q : Fin 512) (r : Fin 128), x = ix3 z q r := ⟨x 0, x 1, x 2, eq_ix3 x⟩
  rw [pay8_apply, pay3_eq]
  refine congrArg₂ dot (funext fun k => ?_) (funext fun k => congrArg x1 ?_)
  · refine ld_rows x0 o inb _ _ ?_ k
    blk_simp
    dsimp only
    omega
  · refine congrArg (ix2 k) (Fin.ext ?_)
    blk_simp
    dsimp only
    omega

theorem half_even (s o : ℕ) (hs : 128 * s = o + 0) (inb : ∀ a, ![o, 0] a + ![256, 2048] a ≤ S2048x2048.size a)
    (inb' : ∀ a, ![s, 0, 0] a + ![1, 256, 128] a ≤ S16x512x128.size a) (inb'' : ∀ a, ![0, 256] a + ![2048, 256] a ≤ S2048x512.size a)
    (x : (Rect.unit (s := S16x512x128) ![s, 0, 0] ![1, 256, 128] inb').shape.Idx) :
    k0_pay35 (View.ld x0 (Rect.unit (s := S2048x2048) ![o, 0] ![256, 2048] inb))
        (View.ld (k0_pay3 x1) (Rect.unit (s := S2048x512) ![0, 256] ![2048, 256] inb'')) x
      = slabs x0 x1 256 ((Rect.unit (s := S16x512x128) ![s, 0, 0] ![1, 256, 128] inb').emb x) := by
  obtain ⟨z, q, r, rfl⟩ : ∃ (z : Fin 1) (q : Fin 256) (r : Fin 128), x = ix3 z q r := ⟨x 0, x 1, x 2, eq_ix3 x⟩
  rw [pay35_apply, pay3_eq]
  refine congrArg₂ dot (funext fun k => ?_) (funext fun k => (ld_right x1 inb'' k q).trans (congrArg x1 ?_))
  · refine ld_rows x0 o inb _ _ ?_ k
    blk_simp
    dsimp only
    omega
  · refine congrArg (ix2 k) (Fin.ext ?_)
    blk_simp
    dsimp only
    omega

theorem half_odd (s o : ℕ) (hs : 128 * s = o + 128) (inb : ∀ a, ![o, 0] a + ![256, 2048] a ≤ S2048x2048.size a)
    (inb' : ∀ a, ![s, 0, 0] a + ![1, 256, 128] a ≤ S16x512x128.size a) (inb'' : ∀ a, ![0, 256] a + ![2048, 256] a ≤ S2048x512.size a)
    (x : (Rect.unit (s := S16x512x128) ![s, 0, 0] ![1, 256, 128] inb').shape.Idx) :
    k0_pay36 (View.ld x0 (Rect.unit (s := S2048x2048) ![o, 0] ![256, 2048] inb))
        (View.ld (k0_pay3 x1) (Rect.unit (s := S2048x512) ![0, 256] ![2048, 256] inb'')) x
      = slabs x0 x1 256 ((Rect.unit (s := S16x512x128) ![s, 0, 0] ![1, 256, 128] inb').emb x) := by
  obtain ⟨z, q, r, rfl⟩ : ∃ (z : Fin 1) (q : Fin 256) (r : Fin 128), x = ix3 z q r := ⟨x 0, x 1, x 2, eq_ix3 x⟩
  rw [pay36_apply, pay3_eq]
  refine congrArg₂ dot (funext fun k => ?_) (funext fun k => (ld_right x1 inb'' k q).trans (congrArg x1 ?_))
  · refine ld_rows x0 o inb _ _ ?_ k
    blk_simp
    dsimp only
    omega
  · refine congrArg (ix2 k) (Fin.ext ?_)
    blk_simp
    dsimp only
    omega

end

section
variable (c : Dev nD) (i : grid0.Coords) (arg2 : Memref sig .tc .vmem S2048x2048 .bf16) (harg2 : arg2.IsWhole) (arg3 : Memref sig .tc .vmem S2048x512 .f32) (harg3 : arg3.IsWhole) (arg4 : Memref sig .tc .vmem S64x2048 .f32) (harg4 : arg4.IsWhole) (arg5 : Memref sig .tc .vmem S128x2048 .f32) (harg5 : arg5.IsWhole) (arg6 : Memref sig .tc .vmem S16x512x128 .bf16) (harg6 : arg6.IsWhole) (arg7 : Memref sig .tc .vmem S64x2048 .bf16) (harg7 : arg7.IsWhole) (arg8 : Memref sig .tc .vmem S128x2048 .bf16) (harg8 : arg8.IsWhole) (arg9 : Memref sig .tc .vmem S2048x512 .bf16) (harg9 : arg9.IsWhole) (x0 : Vec Ideal S2048x2048 .bf16) (x1 : Vec Ideal S2048x512 .f32) (x2 : Vec Ideal S64x2048 .f32) (x3 : Vec Ideal S128x2048 .f32)

theorem piecesFull (h1 : k0_cond1 i = 1#1) (h2 : ¬k0_cond2 i = 1#1) : ∀ p ∈ (runFull c i arg2 harg2 arg3 harg3 arg4 harg4 arg5 harg5 arg6 harg6 arg7 harg7 arg8 harg8 arg9 harg9 h1 h2 x0 x1 x2 x3).1,
    ∀ x : p.1.shape.Idx, p.2 x = slabs x0 x1 0 (p.1.emb x) := by
  frame_out [List.forall_mem_cons, pay10_eq, pay13_eq, pay20_eq, pay27_eq, pay30_eq, pay11_eq, pay14_eq, pay21_eq, pay28_eq, pay17_eq, pay18_eq, pay24_eq, pay25_eq, pay1_eq]
  exact ⟨full_odd x0 x1 _ _ rfl _ _, full_even x0 x1 _ _ rfl _ _, full_odd x0 x1 _ _ rfl _ _, full_even x0 x1 _ _ rfl _ _, full_odd x0 x1 _ _ rfl _ _, full_even x0 x1 _ _ rfl _ _, full_odd x0 x1 _ _ rfl _ _, full_even x0 x1 _ _ rfl _ _, full_odd x0 x1 _ _ rfl _ _, full_even x0 x1 _ _ rfl _ _, full_odd x0 x1 _ _ rfl _ _, full_even x0 x1 _ _ rfl _ _, full_odd x0 x1 _ _ rfl _ _, full_even x0 x1 _ _ rfl _ _, full_odd x0 x1 _ _ rfl _ _, full_even x0 x1 _ _ rfl _ _, fun _ h => absurd h List.not_mem_nil⟩

theorem castsFull (h1 : k0_cond1 i = 1#1) (h2 : ¬k0_cond2 i = 1#1) :
    left5 (runFull c i arg2 harg2 arg3 harg3 arg4 harg4 arg5 harg5 arg6 harg6 arg7 harg7 arg8 harg8 arg9 harg9 h1 h2 x0 x1 x2 x3).2.1 = x2 ∧ left6 (runFull c i arg2 harg2 arg3 harg3 arg4 harg4 arg5 harg5 arg6 harg6 arg7 harg7 arg8 harg8 arg9 harg9 h1 h2 x0 x1 x2 x3).2.2.1 = x3 := by
  constructor <;> frame_out <;> exact View.canon_cons_unit_lit' _ _ _ (by decide)

theorem piecesLast (h1 : ¬k0_cond1 i = 1#1) (h2 : k0_cond2 i = 1#1) : ∀ p ∈ (runLast c i arg2 harg2 arg3 harg3 arg4 harg4 arg5 harg5 arg6 harg6 arg7 harg7 arg8 harg8 arg9 harg9 h1 h2 x0 x1 x2 x3).1,
    ∀ x : p.1.shape.Idx, p.2 x = slabs x0 x1 256 (p.1.emb x) := by
  frame_out [List.forall_mem_cons, pay31_eq, pay38_eq, pay41_eq, pay48_eq, pay55_eq, pay58_eq, pay39_eq, pay42_eq, pay49_eq, pay56_eq, pay45_eq, pay46_eq, pay52_eq, pay53_eq, pay2_eq]
  refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun _ h => absurd h List.not_mem_nil⟩
  · exact (congrFun (congrArg (k0_pay36 _) (readCov_right _ _ _ _)) x).trans (half_odd x0 x1 _ _ rfl _ _ _ x)
  · exact (congrFun (congrArg (k0_pay35 _) (readCov_right _ _ _ _)) x).trans (half_even x0 x1 _ _ rfl _ _ _ x)
  · exact (congrFun (congrArg (k0_pay36 _) (readCov_right _ _ _ _)) x).trans (half_odd x0 x1 _ _ rfl _ _ _ x)
  · exact (congrFun (congrArg (k0_pay35 _) (readCov_right _ _ _ _)) x).trans (half_even x0 x1 _ _ rfl _ _ _ x)
  · exact (congrFun (congrArg (k0_pay36 _) (readCov_right _ _ _ _)) x).trans (half_odd x0 x1 _ _ rfl _ _ _ x)
  · exact (congrFun (congrArg (k0_pay35 _) (readCov_right _ _ _ _)) x).trans (half_even x0 x1 _ _ rfl _ _ _ x)
  · exact (congrFun (congrArg (k0_pay36 _) (readCov_right _ _ _ _)) x).trans (half_odd x0 x1 _ _ rfl _ _ _ x)
  · exact (congrFun (congrArg (k0_pay35 _) (readCov_right _ _ _ _)) x).trans (half_even x0 x1 _ _ rfl _ _ _ x)
  · exact (congrFun (congrArg (k0_pay36 _) (readCov_right _ _ _ _)) x).trans (half_odd x0 x1 _ _ rfl _ _ _ x)
  · exact (congrFun (congrArg (k0_pay35 _) (readCov_right _ _ _ _)) x).trans (half_even x0 x1 _ _ rfl _ _ _ x)
  · exact (congrFun (congrArg (k0_pay36 _) (readCov_right _ _ _ _)) x).trans (half_odd x0 x1 _ _ rfl _ _ _ x)
  · exact (congrFun (congrArg (k0_pay35 _) (readCov_right _ _ _ _)) x).trans (half_even x0 x1 _ _ rfl _ _ _ x)
  · exact (congrFun (congrArg (k0_pay36 _) (readCov_right _ _ _ _)) x).trans (half_odd x0 x1 _ _ rfl _ _ _ x)
  · exact (congrFun (congrArg (k0_pay35 _) (readCov_right _ _ _ _)) x).trans (half_even x0 x1 _ _ rfl _ _ _ x)
  · exact (congrFun (congrArg (k0_pay36 _) (readCov_right _ _ _ _)) x).trans (half_odd x0 x1 _ _ rfl _ _ _ x)
  · exact (congrFun (congrArg (k0_pay35 _) (readCov_right _ _ _ _)) x).trans (half_even x0 x1 _ _ rfl _ _ _ x)

theorem castsLast (h1 : ¬k0_cond1 i = 1#1) (h2 : k0_cond2 i = 1#1) :
    left5 (runLast c i arg2 harg2 arg3 harg3 arg4 harg4 arg5 harg5 arg6 harg6 arg7 harg7 arg8 harg8 arg9 harg9 h1 h2 x0 x1 x2 x3).2.1 = x2 ∧ left6 (runLast c i arg2 harg2 arg3 harg3 arg4 harg4 arg5 harg5 arg6 harg6 arg7 harg7 arg8 harg8 arg9 harg9 h1 h2 x0 x1 x2 x3).2.2.1 = x3 := by
  constructor <;> frame_out <;> exact View.canon_cons_unit_lit' _ _ _ (by decide)

end

end Cert.Kernel4Ideal.ProjT
-- ==== Proof.ProjT.Array.lean ====
/- The arrays the transposed projection call leaves. -/
module

public import proofs.«01_k».proof.Proof.ProjT.Spec

@[expose] public section

set_option maxRecDepth 16384

noncomputable section

namespace Cert.ProjT

/-- The column of the input weights that row `p` of a transposed slab projects on. -/
def colOf (p : Fin 3328) : Fin 8704 :=
  ⟨if p.val < 1024 then p.val else if p.val < 3072 then p.val + 1024 else p.val + 1280, by
    have := p.isLt; split_ifs <;> omega⟩

/-- The block of the input weights' columns that block `j` of those rows projects on. -/
def srcOf (j : ℕ) : ℕ := if j < 2 then j else if j < 6 then j + 2 else 8

end Cert.ProjT

namespace Cert.Kernel4Ideal.ProjT

open Cert.Proj (dot)
open Cert.Kernel4Ideal Cert.Kernel4Ideal.Gen Cert.ProjT Idealize.ShloMosaic Idealize.ShloMosaic.TcCoe Idealize.SL.Sem
open Idealize.ShloMosaic.Pipeline (Window)

variable (m : (ℓ : Loc nD τ sig) → Buf (Elt Ideal) ℓ) (c : Dev nD)

/-- Where the windows lie at each step. -/
theorem index_facts : ∀ t : Fin cfg0.N,
    win0_0.index t = ![t.val / 7, 0] ∧ win0_1.index t = ![0, srcOf (t.val % 7)] ∧ win0_2.index t = ![min t.val 15, 0]
      ∧ win0_3.index t = ![min t.val 15, 0] ∧ win0_4.index t = ![t.val / 7, t.val % 7, 0] ∧ win0_5.index t = ![min t.val 15, 0]
      ∧ win0_6.index t = ![min t.val 15, 0] :=
  (by decide +kernel : ∀ t : Fin grid0.N, _)

theorem t_lt (t : Fin cfg0.N) : t.val < 28 := lt_of_lt_of_eq t.isLt (show cfg0.N = 28 from N_0)

theorem srcOf_lt (t : ℕ) : srcOf (t % 7) < 17 := by unfold srcOf; split_ifs <;> omega

theorem iblk0_apply (t : Fin cfg0.N) (R k : Fin 2048) :
    iblk m c 0 t (ix2 R k) = m ((c : Thread nD τ).loc main_arg0) (ix2 ⟨2048 * (t.val / 7) + R.val, by have := t_lt t; omega⟩ k) := by
  blk_ext [iblk, V, (index_facts t).1]
theorem iblk1_apply (t : Fin cfg0.N) (k : Fin 2048) (n : Fin 512) :
    iblk m c 1 t (ix2 k n)
      = m ((c : Thread nD τ).loc main_arg1) (ix2 k ⟨512 * srcOf (t.val % 7) + n.val, by have := srcOf_lt t.val; omega⟩) := by
  blk_ext [iblk, V, (index_facts t).2.1]
theorem iblk2_apply (t : Fin cfg0.N) (R : Fin 64) (k : Fin 2048) :
    iblk m c 2 t (ix2 R k) = m ((c : Thread nD τ).loc main_arg2) (ix2 ⟨64 * min t.val 15 + R.val, by omega⟩ k) := by
  blk_ext [iblk, V, (index_facts t).2.2.1]
theorem iblk3_apply (t : Fin cfg0.N) (R : Fin 128) (k : Fin 2048) :
    iblk m c 3 t (ix2 R k) = m ((c : Thread nD τ).loc main_arg3) (ix2 ⟨128 * min t.val 15 + R.val, by omega⟩ k) := by
  blk_ext [iblk, V, (index_facts t).2.2.2.1]

/-- The half of the block of weights that the point projects on. -/
def off (t : ℕ) : ℕ := if t % 7 < 6 then 0 else 256

/-- What the point leaves in the part of its block of the result that is moved, -/
theorem left4_apply (t : Fin cfg0.N) (y : S16x512x128.Idx) (hy : win0_4.moved (grid0.coords t) y = true) :
    left4 (point m c t).1 y = slabs (iblk m c 0 t) (iblk m c 1 t) (off t.val) y := by
  have hc := cover4 m c t y hy
  refine View.read_writes_apply_of_pieces _ _ (slabs (iblk m c 0 t) (iblk m c 1 t) (off t.val)) _ ?_ y hc
  unfold point off
  by_cases h1 : k0_cond1 (grid0.coords t) = 1#1
  · rw [dif_pos h1, if_pos ((cond1_iff t).mp h1)]
    exact piecesFull _ _ _ _ _ _ _ _ _ _ _ _ _ _ _ _ _ _ _ _ _ _ _ _
  · rw [dif_neg h1, if_neg (fun h => h1 ((cond1_iff t).mpr h))]
    exact piecesLast _ _ _ _ _ _ _ _ _ _ _ _ _ _ _ _ _ _ _ _ _ _ _ _

/-- and in the two blocks of casts. -/
theorem left56_eq (t : Fin cfg0.N) : left5 (point m c t).2.1 = iblk m c 2 t ∧ left6 (point m c t).2.2.1 = iblk m c 3 t := by
  unfold point
  by_cases h1 : k0_cond1 (grid0.coords t) = 1#1
  · rw [dif_pos h1]
    exact castsFull _ _ _ _ _ _ _ _ _ _ _ _ _ _ _ _ _ _ _ _ _ _ _ _
  · rw [dif_neg h1]
    exact castsLast _ _ _ _ _ _ _ _ _ _ _ _ _ _ _ _ _ _ _ _ _ _ _ _

/-- What the result array ends holding. -/
def result : Buf (Elt Ideal) ((c : Thread nD τ).loc main_v0_0) := fun j =>
  dot (fun k => m ((c : Thread nD τ).loc main_arg0) (ix2 (⟨128 * (j 0).val + (j 2).val, by
      have h0 : (j 0).val < 64 := (j 0).isLt
      have h2 : (j 2).val < 128 := (j 2).isLt
      omega⟩ : Fin 8192) k))
    (fun k => m ((c : Thread nD τ).loc main_arg1) (ix2 k (colOf (j 1 : Fin 3328))))

/-- The two cast arrays end holding the weights, -/
theorem array_eq5 : (dats m 0 c).arrAt 5 cfg0.N = (m ((c : Thread nD τ).loc main_arg2) : Vec Ideal S1024x2048 .f32) := by
  refine (dats m 0 c).arrAt_eq_of_covers 5 _ (by decide +kernel) fun t hf y => ?_
  blk_simp
  rw [after5, (left56_eq m c t).1]
  obtain ⟨R, n, rfl⟩ : ∃ (R : Fin 64) (n : Fin 2048), y = ix2 R n := ⟨y 0, y 1, eq_ix2 y⟩
  refine (iblk2_apply m c t R n).trans (congrArg (m ((c : Thread nD τ).loc main_arg2)) ?_)
  funext a
  apply Fin.ext
  match a with
  | ⟨0, _⟩ =>
    show 64 * min t.val 15 + R.val = _
    blk_simp [(index_facts t).2.2.2.2.2.1]
    omega
  | ⟨1, _⟩ =>
    show n.val = _
    blk_simp [(index_facts t).2.2.2.2.2.1]

theorem array_eq6 : (dats m 0 c).arrAt 6 cfg0.N = (m ((c : Thread nD τ).loc main_arg3) : Vec Ideal S2048x2048 .f32) := by
  refine (dats m 0 c).arrAt_eq_of_covers 6 _ (by decide +kernel) fun t hf y => ?_
  blk_simp
  rw [after6, (left56_eq m c t).2]
  obtain ⟨R, n, rfl⟩ : ∃ (R : Fin 128) (n : Fin 2048), y = ix2 R n := ⟨y 0, y 1, eq_ix2 y⟩
  refine (iblk3_apply m c t R n).trans (congrArg (m ((c : Thread nD τ).loc main_arg3)) ?_)
  funext a
  apply Fin.ext
  match a with
  | ⟨0, _⟩ =>
    show 128 * min t.val 15 + R.val = _
    blk_simp [(index_facts t).2.2.2.2.2.2]
    omega
  | ⟨1, _⟩ =>
    show n.val = _
    blk_simp [(index_facts t).2.2.2.2.2.2]

/-- The blocks of the rows and of the weights' columns, against the columns the result's rows project on. -/
theorem point_proj (t : Fin cfg0.N) (S : Fin 16) (n : Fin 512) (R : Fin 128) (hn : t.val % 7 = 6 → n.val < 256) (J0 : Fin 64) (J1 : Fin 3328) (J2 : Fin 128)
    (h0 : J0.val = 16 * (t.val / 7) + S.val) (h1 : J1.val = 512 * (t.val % 7) + n.val) (h2 : J2.val = R.val) :
    slabs (iblk m c 0 t) (iblk m c 1 t) (off t.val) (ix3 S n R) = result m c (ix3 J0 J1 J2) := by
  refine congrArg₂ dot (funext fun k => ?_) (funext fun k => ?_)
  · refine (iblk0_apply m c t _ k).trans (congrArg (fun r => m ((c : Thread nD τ).loc main_arg0) (ix2 r k)) (Fin.ext ?_))
    show 2048 * (t.val / 7) + (128 * S.val + R.val) = 128 * J0.val + J2.val
    omega
  · refine (iblk1_apply m c t k _).trans (congrArg (fun r => m ((c : Thread nD τ).loc main_arg1) (ix2 k r)) (Fin.ext ?_))
    show 512 * srcOf (t.val % 7) + (off t.val + n.val) % 512 = if J1.val < 1024 then J1.val else if J1.val < 3072 then J1.val + 1024 else J1.val + 1280
    have := n.isLt
    have := J1.isLt
    unfold srcOf off
    split_ifs <;> omega

/-- and the result its transposed projections. -/
theorem array_eq4 : (dats m 0 c).arrAt 4 cfg0.N = result m c := by
  refine (dats m 0 c).arrAt_eq_of_covers 4 _ (by decide +kernel) fun t hf y => ?_
  blk_simp
  rw [after4]
  have hm := win0_4.moved_xinj (cfg0.grid.coords t) y
  refine (left4_apply m c t _ hm).trans ?_
  generalize hY : (cfg0.win 4).xinj (cfg0.grid.coords t) y = Y at hm
  obtain ⟨S, n, R, rfl⟩ : ∃ (S : Fin 16) (n : Fin 512) (R : Fin 128), Y = ix3 S n R := ⟨Y 0, Y 1, Y 2, eq_ix3 Y⟩
  have hS : (y 0).val = S.val := congrArg (fun Y => (Y 0).val) hY
  have hn : (y 1).val = n.val := congrArg (fun Y => (Y 1).val) hY
  have hR : (y 2).val = R.val := congrArg (fun Y => (Y 2).val) hY
  generalize hJ : (win0_4.blk t).view.emb y = J
  obtain ⟨J0, J1, J2, rfl⟩ : ∃ (J0 : Fin 64) (J1 : Fin 3328) (J2 : Fin 128), J = ix3 J0 J1 J2 := ⟨J 0, J 1, J 2, eq_ix3 J⟩
  refine point_proj m c t S n R ?_ J0 J1 J2 ?_ ?_ ?_
  · intro h6
    have h := (win0_4.moved_iff _ _).mp hm 1
    rwa [moved_last t (by rcases branches t with h | h; exacts [absurd ((cond1_iff t).mp h.1) (by omega), h.2])] at h
  · rw [← hS, ← show ((win0_4.blk t).view.emb y 0).val = J0.val from congrArg (fun J => (J 0).val) hJ]
    blk_simp [(index_facts t).2.2.2.2.1]
    omega
  · rw [← hn, ← show ((win0_4.blk t).view.emb y 1).val = J1.val from congrArg (fun J => (J 1).val) hJ]
    blk_simp [(index_facts t).2.2.2.2.1]
    omega
  · rw [← hR, ← show ((win0_4.blk t).view.emb y 2).val = J2.val from congrArg (fun J => (J 2).val) hJ]
    blk_simp [(index_facts t).2.2.2.2.1]

/-- The run: the three result arrays, the arguments unchanged. -/
theorem run (ρ : Dev nD → PrngReg) : θ_run defs (onTc (τ := τ) (main (F := Ideal))) ⟨m, fun _ => 0, ρ⟩ fun r => ∀ c : Dev nD,
      (r.2.mem ((c : Thread nD τ).loc main_v0_0) = result m c
      ∧ r.2.mem ((c : Thread nD τ).loc main_v0_1) = (m ((c : Thread nD τ).loc main_arg2) : Vec Ideal S1024x2048 .f32)
      ∧ r.2.mem ((c : Thread nD τ).loc main_v0_2) = (m ((c : Thread nD τ).loc main_arg3) : Vec Ideal S2048x2048 .f32))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨⟨((h.1 c).1 4).trans (array_eq4 m c), ((h.1 c).1 5).trans (array_eq5 m c),
    ((h.1 c).1 6).trans (array_eq6 m c)⟩, h.2.1 c⟩) (Idealize.ShloMosaic.θ_run_and (run_main m ρ) (frame m ρ))

end Cert.Kernel4Ideal.ProjT
-- ==== Proof.ProjT.Ref.lean ====
/- What the reference of the transposed projection computes, element by element. -/
module

public import proofs.«01_k».proof.Proof.ProjT.Array
public import proofs.«01_k».proof.Proof.Gen.Reference4Ideal.Run

@[expose] public section

noncomputable section

namespace Cert.Reference4Ideal.ProjT

open Cert.Proj (dot)
open Cert.Reference4Ideal Cert.Reference4Ideal.Value Cert.ProjT Idealize.ShloMosaic Idealize.ShloMosaic.TcCoe Idealize.SL.Sem

variable (m : (ℓ : Loc nD τ sig) → Buf (Elt Ideal) ℓ)

/-- The reference's run: its results element by element, the arguments unchanged. -/
theorem run (ρ : Dev nD → PrngReg) : θ_run defs (onTc (τ := τ) (main (F := Ideal))) ⟨m, fun _ => 0, ρ⟩ fun r => ∀ c : Dev nD,
      ((∀ (S : Fin 64) (p : Fin 3328) (R : Fin 128), r.2.mem ((c : Thread nD τ).loc main_v8) (ix3 S p R)
        = dot (fun k => m ((c : Thread nD τ).loc main_arg0) (ix2 ⟨128 * S.val + R.val, by omega⟩ k))
          (fun k => m ((c : Thread nD τ).loc main_arg1) (ix2 k (colOf p))))
      ∧ r.2.mem ((c : Thread nD τ).loc main_v9) = (m ((c : Thread nD τ).loc main_arg2) : Vec Ideal S1024x2048 .f32)
      ∧ r.2.mem ((c : Thread nD τ).loc main_v10) = (m ((c : Thread nD τ).loc main_arg3) : Vec Ideal S2048x2048 .f32))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  refine (θ_run defs _ _).mono (fun r h c => ⟨⟨fun S p R => (congrFun (h c).1 (ix3 S p R)).trans ?_, (h c).2.1, (h c).2.2.1⟩, (h c).2.2.2⟩)
    (Value.run (F := Ideal) m ρ)
  unfold dot
  pointwise []
  have hp := p.isLt
  rw [show (⟨128 * S.val + R.val, by omega⟩ : Fin 8192) = ⟨S.val * 128 + R.val, by omega⟩ from
    Fin.ext (congrArg (· + R.val) (Nat.mul_comm 128 S.val))]
  by_cases h1 : p.val < 1024
  · rw [show colOf p = ⟨p.val, by omega⟩ from Fin.ext (if_pos h1), dif_pos h1]
  · rw [dif_neg h1]
    by_cases h2 : p.val < 3072
    · rw [show colOf p = ⟨2048 + (p.val - 1024), by omega⟩ from
        Fin.ext ((if_neg h1).trans ((if_pos h2).trans (show p.val + 1024 = 2048 + (p.val - 1024) by omega))), dif_pos (by omega)]
    · rw [show colOf p = ⟨4352 + (p.val - 1024 - 2048), by omega⟩ from
        Fin.ext ((if_neg h1).trans ((if_neg h2).trans (show p.val + 1280 = 4352 + (p.val - 1024 - 2048) by omega))), dif_neg (by omega)]

end Cert.Reference4Ideal.ProjT
-- ==== Proof.ProjT.Claims.lean ====
/- The claims about the transposed projection call. -/
module

public import proofs.«01_k».proof.Defs
public import proofs.«01_k».proof.Proof.ProjT.Ref
public import proofs.«01_k».proof.Proof.Gen.Kernel4

@[expose] public section

noncomputable section

namespace Cert.ProjT

open Idealize.ShloMosaic Idealize.ShloMosaic.TcCoe

instance facts : Cert.Kernel4.Facts := Cert.Kernel4.Gen.facts
instance factsIdeal : Cert.Kernel4Ideal.Facts := Cert.Kernel4Ideal.Gen.facts

/-- The original's body is the idealized one's: no operation of it was replaced. -/
theorem table_eq : @Cert.Kernel4.defs₀ Bits _ _ = @Cert.Kernel4Ideal.defs₀ Bits _ _ := by
  unfold Cert.Kernel4.defs₀ Cert.Kernel4Ideal.defs₀
  refine congrArg Defs.onTc (funext fun l => funext fun x => ?_)
  match l, x with
  | 0, (t, s) => rfl

theorem defs_eq : @Cert.Kernel4.defs Bits _ _ = @Cert.Kernel4Ideal.defs Bits _ _ :=
  congrArg (Pipeline.defs Cert.Kernel4Ideal.pcfgs) table_eq

theorem frame_p : Cert.quiescent_Kernel4 := fun m ρ _ =>
  (congrArg (fun d => θ_run d (onTc (τ := Cert.Kernel4.τ) (Cert.Kernel4.main (F := Bits))) ⟨m, fun _ => 0, ρ⟩ _) defs_eq).mpr
    (Cert.Kernel4Ideal.ProjT.frame (F := Bits) m ρ)

theorem frame_pi : Cert.quiescent_Kernel4Ideal := fun m ρ _ => Cert.Kernel4Ideal.ProjT.frame m ρ

theorem frame_ri : Cert.quiescent_Reference4Ideal := fun m ρ _ =>
  (θ_run Cert.Reference4Ideal.defs _ _).mono
    (fun r h => ⟨fun c => (h c).2, Idealize.ShloMosaic.sem_eq_zero_of_no_sems (by decide) r.2⟩) (Cert.Reference4Ideal.ProjT.run m ρ)

theorem preserves : Cert.preserves_Kernel4_Kernel4Ideal := trivial

/-- On equal arguments the kernel's three arrays are the reference's. -/
theorem algebraic : Cert.algebraic_Kernel4Ideal_Reference4Ideal := by
  intro m ρ m' ρ' _ hagree
  refine ⟨_, _, _, (θ_run Cert.Kernel4Ideal.defs _ _).mono
    (fun _ h c => ⟨(h c).1.1, (h c).1.2.1, (h c).1.2.2, (h c).2⟩) (Cert.Kernel4Ideal.ProjT.run m ρ), ?_⟩
  refine (θ_run Cert.Reference4Ideal.defs _ _).mono (fun _ h c => ⟨?_, (h c).1.2.1.trans (hagree c).2.2.1,
    (h c).1.2.2.trans (hagree c).2.2.2, (h c).2⟩) (Cert.Reference4Ideal.ProjT.run m' ρ')
  obtain ⟨h0, h1, -, -⟩ := hagree c
  funext i
  obtain ⟨S, p, R, rfl⟩ : ∃ (S : Fin 64) (p : Fin 3328) (R : Fin 128), i = ix3 S p R := ⟨i 0, i 1, i 2, eq_ix3 i⟩
  refine ((h c).1.1 S p R).trans ?_
  rw [h0, h1]
  rfl

end Cert.ProjT
-- ==== Proof.lean ====
/- The proof of the certificate's claims. -/
module

public import proofs.«01_k».proof.Defs
public import proofs.«01_k».proof.Proof.Ffn.Claims
public import proofs.«01_k».proof.Proof.Mix.Claims
public import proofs.«01_k».proof.Proof.Proj.Claims
public import proofs.«01_k».proof.Proof.ProjT.Claims
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel2Ideal.Frame
public import proofs.«01_k».proof.Proof.Gen.Reference2Ideal.Run

@[expose] public section

noncomputable section

namespace Cert.Proof

theorem claim : Cert.Claim := ⟨Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_gate_finite.Gen.facts,
  Cert.Ffn.frame_p, Cert.Ffn.frame_pi, Cert.Ffn.frame_pi_pre, Cert.Ffn.frame_ri, Cert.Ffn.frame_ri_pre,
  Cert.Proj.frame_p, Cert.Proj.frame_pi, Cert.Proj.frame_ri,
  Cert.ProjT.frame_p, Cert.ProjT.frame_pi, Cert.ProjT.frame_ri,
  Cert.Mix.frame_p, Cert.Mix.frame_pi, Cert.Mix.frame_ri,
  Cert.Ffn.preserves, Cert.Ffn.algebraic, Cert.Proj.preserves, Cert.Proj.algebraic, Cert.ProjT.preserves, Cert.ProjT.algebraic, Cert.Mix.preserves, Cert.Mix.algebraic⟩

end Cert.Proof

end
